-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2x2048x256 : Shape := ⟨3, ![2, 2048, 256]⟩
abbrev S2048x1536 : Shape := ⟨2, ![2048, 1536]⟩
abbrev S32x512x256 : Shape := ⟨3, ![32, 512, 256]⟩
abbrev S1024x256 : Shape := ⟨2, ![1024, 256]⟩
abbrev S2 : Shape := ⟨1, ![2]⟩
abbrev S_ : Shape := ⟨0, ![]⟩
abbrev S32 : Shape := ⟨1, ![32]⟩
abbrev S1 : Shape := ⟨1, ![1]⟩
abbrev S1x2048x256 : Shape := ⟨3, ![1, 2048, 256]⟩
abbrev S2048x256 : Shape := ⟨2, ![2048, 256]⟩
abbrev S1536x256 : Shape := ⟨2, ![1536, 256]⟩
abbrev S512x256 : Shape := ⟨2, ![512, 256]⟩
abbrev S1x512x256 : Shape := ⟨3, ![1, 512, 256]⟩

abbrev nBuf : Space → Nat
  | .hbm => 3
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .bf16⟩
  | .local _ .vmem, ⟨0, _⟩ => ⟨S2x2048x256, .f32⟩
  | .local _ .vmem, ⟨1, _⟩ => ⟨S2048x1536, .bf16⟩
  | .local _ .vmem, ⟨2, _⟩ => ⟨S2x2048x256, .f32⟩
  | .local _ .vmem, ⟨3, _⟩ => ⟨S32x512x256, .bf16⟩
  | .local _ .vmem, ⟨4, _⟩ => ⟨S1024x8192, .bf16⟩
  | .local _ .vmem, ⟨5, _⟩ => ⟨S32x512x256, .bf16⟩
  | .local _ .vmem, ⟨6, _⟩ => ⟨S32x512x256, .bf16⟩
  | .local _ .vmem, ⟨7, _⟩ => ⟨S1024x256, .bf16⟩
  | _, _ => ⟨S2048x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) (c0_i32_18 : BitVec 32) : Fin 2 → Nat :=
  let c0_i32_27 : BitVec 32 := 0#32
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_15 v5
  let c1024_i32 : BitVec 32 := 1024#32
  let v25 : BitVec 32 := Scalar.muli v24 c1024_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v26 : BitVec 32 := Scalar.muli v8 c512_i32
  let v27 : BitVec 32 := Scalar.addi v25 v26
  let v30 : BitVec 32 := Scalar.addi v27 c0_i32_18
  ![0, v30.toNat]
def k0_off2 (d0 : Dev nD) (c0_i32_19 : BitVec 32) : Fin 2 → Nat :=
  let c0_i32_46 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_16 : BitVec 32 := 1024#32
  let v28 : BitVec 32 := Scalar.muli v5 c1024_i32_16
  let v32 : BitVec 32 := Scalar.addi v28 c0_i32_19
  ![0, v32.toNat]
def k0_off3 (d0 : Dev nD) (c0_i32_21 : BitVec 32) : Fin 2 → Nat :=
  let c0_i32_73 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_16 : BitVec 32 := 1024#32
  let v28 : BitVec 32 := Scalar.muli v5 c1024_i32_16
  let c512_i32_17 : BitVec 32 := 512#32
  let v29 : BitVec 32 := Scalar.addi v28 c512_i32_17
  let v34 : BitVec 32 := Scalar.addi v29 c0_i32_21
  ![0, v34.toNat]
@[reducible] def k0_t1_loop : Scf.Loop 32 :=
  let c0_i32_113 : BitVec 32 := 0#32
  let c32_i32 : BitVec 32 := 32#32
  let v138 : BitVec 32 := Scalar.addi c0_i32_113 c32_i32
  let c1_i32_114 : BitVec 32 := 1#32
  ⟨c0_i32_113, v138, c1_i32_114⟩
def k0_cond1 (k0_t1 : Fin k0_t1_loop.trips) : BitVec 1 :=
  let c0_i32_113 : BitVec 32 := 0#32
  let c1_i32_114 : BitVec 32 := 1#32
  let arg17 : BitVec 32 := Scf.iv c0_i32_113 c1_i32_114 k0_t1
  let c1_i32_271 : BitVec 32 := 1#32
  let v347 : BitVec 32 := Scalar.addi arg17 c1_i32_271
  let c32_i32_272 : BitVec 32 := 32#32
  let v348 : BitVec 1 := Scalar.cmpi .slt v347 c32_i32_272
  let v349 : BitVec 32 := Scalar.extui v348
  let c0_i32_273 : BitVec 32 := 0#32
  let v350 : BitVec 1 := Scalar.cmpi .ne v349 c0_i32_273
  v350

def k0_off4 (k0_t1 : Fin k0_t1_loop.trips) : Fin 1 → Nat :=
  let c1_i32_308 : BitVec 32 := 1#32
  let c0_i32_113 : BitVec 32 := 0#32
  let c1_i32_114 : BitVec 32 := 1#32
  let arg17 : BitVec 32 := Scf.iv c0_i32_113 c1_i32_114 k0_t1
  let c2_i32_265 : BitVec 32 := 2#32
  let c0_i32_266 : BitVec 32 := 0#32
  let v337 : BitVec 1 := Scalar.cmpi .eq c2_i32_265 c0_i32_266
  let c1_i32_267 : BitVec 32 := 1#32
  let v338 : BitVec 32 := Scalar.select v337 c1_i32_267 c2_i32_265
  let v339 : BitVec 32 := Scalar.remsi arg17 v338
  let c0_i32_269 : BitVec 32 := 0#32
  let v341 : BitVec 1 := Scalar.cmpi .slt v339 c0_i32_269
  let c0_i32_270 : BitVec 32 := 0#32
  let v342 : BitVec 1 := Scalar.cmpi .slt v338 c0_i32_270
  let v343 : BitVec 1 := Scalar.xori v341 v342
  let c0_i32_268 : BitVec 32 := 0#32
  let v340 : BitVec 1 := Scalar.cmpi .ne v339 c0_i32_268
  let v344 : BitVec 1 := Scalar.andi v343 v340
  let v345 : BitVec 32 := Scalar.addi v339 v338
  let v346 : BitVec 32 := Scalar.select v344 v345 v339
  let v419 : BitVec 32 := Scalar.subi c1_i32_308 v346
  ![v419.toNat]
def k0_off5 (k0_t1 : Fin k0_t1_loop.trips) : Fin 3 → Nat :=
  let c1_i32_308 : BitVec 32 := 1#32
  let c0_i32_113 : BitVec 32 := 0#32
  let c1_i32_114 : BitVec 32 := 1#32
  let arg17 : BitVec 32 := Scf.iv c0_i32_113 c1_i32_114 k0_t1
  let c2_i32_265 : BitVec 32 := 2#32
  let c0_i32_266 : BitVec 32 := 0#32
  let v337 : BitVec 1 := Scalar.cmpi .eq c2_i32_265 c0_i32_266
  let c1_i32_267 : BitVec 32 := 1#32
  let v338 : BitVec 32 := Scalar.select v337 c1_i32_267 c2_i32_265
  let v339 : BitVec 32 := Scalar.remsi arg17 v338
  let c0_i32_269 : BitVec 32 := 0#32
  let v341 : BitVec 1 := Scalar.cmpi .slt v339 c0_i32_269
  let c0_i32_270 : BitVec 32 := 0#32
  let v342 : BitVec 1 := Scalar.cmpi .slt v338 c0_i32_270
  let v343 : BitVec 1 := Scalar.xori v341 v342
  let c0_i32_268 : BitVec 32 := 0#32
  let v340 : BitVec 1 := Scalar.cmpi .ne v339 c0_i32_268
  let v344 : BitVec 1 := Scalar.andi v343 v340
  let v345 : BitVec 32 := Scalar.addi v339 v338
  let v346 : BitVec 32 := Scalar.select v344 v345 v339
  let v419 : BitVec 32 := Scalar.subi c1_i32_308 v346
  let c0_i32_310 : BitVec 32 := 0#32
  let c0_i32_311 : BitVec 32 := 0#32
  ![v419.toNat, 0, 0]
def k0_off6 (k0_t1 : Fin k0_t1_loop.trips) : Fin 2 → Nat :=
  let c0_i32_312 : BitVec 32 := 0#32
  let c0_i32_113 : BitVec 32 := 0#32
  let c1_i32_114 : BitVec 32 := 1#32
  let arg17 : BitVec 32 := Scf.iv c0_i32_113 c1_i32_114 k0_t1
  let c1_i32_307 : BitVec 32 := 1#32
  let v418 : BitVec 32 := Scalar.addi arg17 c1_i32_307
  let c256_i32_309 : BitVec 32 := 256#32
  let v420 : BitVec 32 := Scalar.muli v418 c256_i32_309
  ![0, v420.toNat]
def k0_off7 (k0_t1 : Fin k0_t1_loop.trips) : Fin 1 → Nat :=
  let c0_i32_113 : BitVec 32 := 0#32
  let c1_i32_114 : BitVec 32 := 1#32
  let arg17 : BitVec 32 := Scf.iv c0_i32_113 c1_i32_114 k0_t1
  let c2_i32_265 : BitVec 32 := 2#32
  let c0_i32_266 : BitVec 32 := 0#32
  let v337 : BitVec 1 := Scalar.cmpi .eq c2_i32_265 c0_i32_266
  let c1_i32_267 : BitVec 32 := 1#32
  let v338 : BitVec 32 := Scalar.select v337 c1_i32_267 c2_i32_265
  let v339 : BitVec 32 := Scalar.remsi arg17 v338
  let c0_i32_269 : BitVec 32 := 0#32
  let v341 : BitVec 1 := Scalar.cmpi .slt v339 c0_i32_269
  let c0_i32_270 : BitVec 32 := 0#32
  let v342 : BitVec 1 := Scalar.cmpi .slt v338 c0_i32_270
  let v343 : BitVec 1 := Scalar.xori v341 v342
  let c0_i32_268 : BitVec 32 := 0#32
  let v340 : BitVec 1 := Scalar.cmpi .ne v339 c0_i32_268
  let v344 : BitVec 1 := Scalar.andi v343 v340
  let v345 : BitVec 32 := Scalar.addi v339 v338
  let v346 : BitVec 32 := Scalar.select v344 v345 v339
  ![v346.toNat]
def k0_off8 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let c2_i32_265 : BitVec 32 := 2#32
  let c0_i32_266 : BitVec 32 := 0#32
  let v337 : BitVec 1 := Scalar.cmpi .eq c2_i32_265 c0_i32_266
  let c1_i32_267 : BitVec 32 := 1#32
  let v338 : BitVec 32 := Scalar.select v337 c1_i32_267 c2_i32_265
  let v339 : BitVec 32 := Scalar.remsi arg17 v338
  let c0_i32_269 : BitVec 32 := 0#32
  let v341 : BitVec 1 := Scalar.cmpi .slt v339 c0_i32_269
  let c0_i32_270 : BitVec 32 := 0#32
  let v342 : BitVec 1 := Scalar.cmpi .slt v338 c0_i32_270
  let v343 : BitVec 1 := Scalar.xori v341 v342
  let c0_i32_268 : BitVec 32 := 0#32
  let v340 : BitVec 1 := Scalar.cmpi .ne v339 c0_i32_268
  let v344 : BitVec 1 := Scalar.andi v343 v340
  let v345 : BitVec 32 := Scalar.addi v339 v338
  let v346 : BitVec 32 := Scalar.select v344 v345 v339
  let c0_i32_275 : BitVec 32 := 0#32
  let c0_i32_276 : BitVec 32 := 0#32
  ![v346.toNat, 0, 0]
def k0_off9 (k0_t1 : Fin k0_t1_loop.trips) : Fin 2 → Nat :=
  let c0_i32_277 : BitVec 32 := 0#32
  let c0_i32_113 : BitVec 32 := 0#32
  let c1_i32_114 : BitVec 32 := 1#32
  let arg17 : BitVec 32 := Scf.iv c0_i32_113 c1_i32_114 k0_t1
  let c256_i32_274 : BitVec 32 := 256#32
  let v351 : BitVec 32 := Scalar.muli arg17 c256_i32_274
  ![0, v351.toNat]
def k0_off10 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let c2_i32_265 : BitVec 32 := 2#32
  let c0_i32_266 : BitVec 32 := 0#32
  let v337 : BitVec 1 := Scalar.cmpi .eq c2_i32_265 c0_i32_266
  let c1_i32_267 : BitVec 32 := 1#32
  let v338 : BitVec 32 := Scalar.select v337 c1_i32_267 c2_i32_265
  let v339 : BitVec 32 := Scalar.remsi arg17 v338
  let c0_i32_269 : BitVec 32 := 0#32
  let v341 : BitVec 1 := Scalar.cmpi .slt v339 c0_i32_269
  let c0_i32_270 : BitVec 32 := 0#32
  let v342 : BitVec 1 := Scalar.cmpi .slt v338 c0_i32_270
  let v343 : BitVec 1 := Scalar.xori v341 v342
  let c0_i32_268 : BitVec 32 := 0#32
  let v340 : BitVec 1 := Scalar.cmpi .ne v339 c0_i32_268
  let v344 : BitVec 1 := Scalar.andi v343 v340
  let v345 : BitVec 32 := Scalar.addi v339 v338
  let v346 : BitVec 32 := Scalar.select v344 v345 v339
  let v357 : Index := Scalar.indexCast v346
  let c0_278 : Index := 0#32
  let c0_279 : Index := 0#32
  ![v357.toNat, 0, 0]
def k0_off11 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let v393 : Index := Scalar.indexCast v379
  let c0_296 : Index := 0#32
  let c1_i32_289 : BitVec 32 := 1#32
  let c0_i32_290 : BitVec 32 := 0#32
  let v380 : BitVec 1 := Scalar.cmpi .eq c1_i32_289 c0_i32_290
  let c1_i32_291 : BitVec 32 := 1#32
  let v381 : BitVec 32 := Scalar.select v380 c1_i32_291 c1_i32_289
  let v382 : BitVec 32 := Scalar.remsi arg17 v381
  let c0_i32_293 : BitVec 32 := 0#32
  let v384 : BitVec 1 := Scalar.cmpi .slt v382 c0_i32_293
  let c0_i32_294 : BitVec 32 := 0#32
  let v385 : BitVec 1 := Scalar.cmpi .slt v381 c0_i32_294
  let v386 : BitVec 1 := Scalar.xori v384 v385
  let c0_i32_292 : BitVec 32 := 0#32
  let v383 : BitVec 1 := Scalar.cmpi .ne v382 c0_i32_292
  let v387 : BitVec 1 := Scalar.andi v386 v383
  let v388 : BitVec 32 := Scalar.addi v382 v381
  let v389 : BitVec 32 := Scalar.select v387 v388 v382
  let c256_i32_295 : BitVec 32 := 256#32
  let v390 : BitVec 32 := Scalar.muli v389 c256_i32_295
  let v394 : Index := Scalar.indexCast v390
  ![v393.toNat, 0, v394.toNat]
def k0_off12 (k0_t1 : Fin k0_t1_loop.trips) : Fin 2 → Nat :=
  let c0_298 : Index := 0#32
  let c0_i32_113 : BitVec 32 := 0#32
  let c1_i32_114 : BitVec 32 := 1#32
  let arg17 : BitVec 32 := Scf.iv c0_i32_113 c1_i32_114 k0_t1
  let c256_i32_297 : BitVec 32 := 256#32
  let v400 : BitVec 32 := Scalar.muli arg17 c256_i32_297
  let v401 : Index := Scalar.indexCast v400
  ![0, v401.toNat]
def k0_cond2 (k0_t1 : Fin k0_t1_loop.trips) : BitVec 1 :=
  let c0_i32_113 : BitVec 32 := 0#32
  let c1_i32_114 : BitVec 32 := 1#32
  let arg17 : BitVec 32 := Scf.iv c0_i32_113 c1_i32_114 k0_t1
  let c1_i32_299 : BitVec 32 := 1#32
  let c0_i32_300 : BitVec 32 := 0#32
  let v405 : BitVec 1 := Scalar.cmpi .eq c1_i32_299 c0_i32_300
  let c1_i32_301 : BitVec 32 := 1#32
  let v406 : BitVec 32 := Scalar.select v405 c1_i32_301 c1_i32_299
  let v407 : BitVec 32 := Scalar.remsi arg17 v406
  let c0_i32_303 : BitVec 32 := 0#32
  let v409 : BitVec 1 := Scalar.cmpi .slt v407 c0_i32_303
  let c0_i32_304 : BitVec 32 := 0#32
  let v410 : BitVec 1 := Scalar.cmpi .slt v406 c0_i32_304
  let v411 : BitVec 1 := Scalar.xori v409 v410
  let c0_i32_302 : BitVec 32 := 0#32
  let v408 : BitVec 1 := Scalar.cmpi .ne v407 c0_i32_302
  let v412 : BitVec 1 := Scalar.andi v411 v408
  let v413 : BitVec 32 := Scalar.addi v407 v406
  let v414 : BitVec 32 := Scalar.select v412 v413 v407
  let c0_i32_305 : BitVec 32 := 0#32
  let v415 : BitVec 1 := Scalar.cmpi .eq v414 c0_i32_305
  let v416 : BitVec 32 := Scalar.extui v415
  let c0_i32_306 : BitVec 32 := 0#32
  let v417 : BitVec 1 := Scalar.cmpi .ne v416 c0_i32_306
  v417

def k0_off13 (k0_t1 : Fin k0_t1_loop.trips) : Fin 1 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  ![v379.toNat]
def k0_off14 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c0_i32_311 : BitVec 32 := 0#32
  let c0_i32_312 : BitVec 32 := 0#32
  ![v379.toNat, 0, 0]
def k0_dev3 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v418 : BitVec 32 := Scalar.muli v2 c4_i32_307
  let v419 : BitVec 32 := Scalar.addi c0_i32_308 v418
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_309 : BitVec 32 := 2#32
  let v420 : BitVec 32 := Scalar.muli v9 c2_i32_309
  let v421 : BitVec 32 := Scalar.addi v419 v420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v422 : BitVec 32 := Scalar.muli v8 c1_i32_310
  let v423 : BitVec 32 := Scalar.addi v421 v422
  v423.toNat
def k0_cond3 (k0_t1 : Fin k0_t1_loop.trips) : BitVec 1 :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c2_i32_315 : BitVec 32 := 2#32
  let v432 : BitVec 1 := Scalar.cmpi .sge v379 c2_i32_315
  let v433 : BitVec 32 := Scalar.extui v432
  let c0_i32_316 : BitVec 32 := 0#32
  let v434 : BitVec 1 := Scalar.cmpi .ne v433 c0_i32_316
  v434

def k0_off15 (k0_t1 : Fin k0_t1_loop.trips) : Fin 1 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c2_i32_319 : BitVec 32 := 2#32
  let v438 : BitVec 32 := Scalar.subi v379 c2_i32_319
  ![v438.toNat]
def k0_off16 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c2_i32_319 : BitVec 32 := 2#32
  let v438 : BitVec 32 := Scalar.subi v379 c2_i32_319
  let c0_i32_324 : BitVec 32 := 0#32
  let c0_i32_325 : BitVec 32 := 0#32
  ![v438.toNat, 0, 0]
def k0_dev4 (d0 : Dev nD) : Nat :=
  let c0_i32_329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_328 : BitVec 32 := 4#32
  let v451 : BitVec 32 := Scalar.muli v2 c4_i32_328
  let v452 : BitVec 32 := Scalar.addi c0_i32_329 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v453 : BitVec 32 := Scalar.muli v5 c2_i32_330
  let v454 : BitVec 32 := Scalar.addi v452 v453
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_331 : BitVec 32 := 1#32
  let v455 : BitVec 32 := Scalar.muli v10 c1_i32_331
  let v456 : BitVec 32 := Scalar.addi v454 v455
  v456.toNat
def k0_cond4 (k0_t1 : Fin k0_t1_loop.trips) : BitVec 1 :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_317 : BitVec 32 := 4#32
  let v435 : BitVec 1 := Scalar.cmpi .sge v379 c4_i32_317
  let v436 : BitVec 32 := Scalar.extui v435
  let c0_i32_318 : BitVec 32 := 0#32
  let v437 : BitVec 1 := Scalar.cmpi .ne v436 c0_i32_318
  v437

def k0_off17 (k0_t1 : Fin k0_t1_loop.trips) : Fin 1 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_319 : BitVec 32 := 4#32
  let v438 : BitVec 32 := Scalar.subi v379 c4_i32_319
  ![v438.toNat]
def k0_off18 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_319 : BitVec 32 := 4#32
  let v438 : BitVec 32 := Scalar.subi v379 c4_i32_319
  let c0_i32_324 : BitVec 32 := 0#32
  let c0_i32_325 : BitVec 32 := 0#32
  ![v438.toNat, 0, 0]
def k0_cond5 (k0_t1 : Fin k0_t1_loop.trips) : BitVec 1 :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_319 : BitVec 32 := 4#32
  let v438 : BitVec 32 := Scalar.subi v379 c4_i32_319
  let c0_i32_328 : BitVec 32 := 0#32
  let v451 : BitVec 1 := Scalar.cmpi .sgt v438 c0_i32_328
  let v452 : BitVec 32 := Scalar.extui v451
  let c0_i32_329 : BitVec 32 := 0#32
  let v453 : BitVec 1 := Scalar.cmpi .ne v452 c0_i32_329
  v453

def k0_off19 (k0_t1 : Fin k0_t1_loop.trips) : Fin 2 → Nat :=
  let c0_i32_344 : BitVec 32 := 0#32
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_319 : BitVec 32 := 4#32
  let v438 : BitVec 32 := Scalar.subi v379 c4_i32_319
  let c1_i32_342 : BitVec 32 := 1#32
  let v482 : BitVec 32 := Scalar.subi v438 c1_i32_342
  let c256_i32_343 : BitVec 32 := 256#32
  let v483 : BitVec 32 := Scalar.muli v482 c256_i32_343
  ![0, v483.toNat]
def k0_off20 (k0_t1 : Fin k0_t1_loop.trips) : Fin 2 → Nat :=
  let c0_331 : Index := 0#32
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_319 : BitVec 32 := 4#32
  let v438 : BitVec 32 := Scalar.subi v379 c4_i32_319
  let c256_i32_330 : BitVec 32 := 256#32
  let v454 : BitVec 32 := Scalar.muli v438 c256_i32_330
  let v455 : Index := Scalar.indexCast v454
  ![0, v455.toNat]
def k0_off21 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_319 : BitVec 32 := 4#32
  let v438 : BitVec 32 := Scalar.subi v379 c4_i32_319
  let v458 : Index := Scalar.indexCast v438
  let c0_332 : Index := 0#32
  let c0_333 : Index := 0#32
  ![v458.toNat, 0, 0]
def k0_off22 (k0_t1 : Fin k0_t1_loop.trips) : Fin 2 → Nat :=
  let c0_i32_341 : BitVec 32 := 0#32
  let c0_i32_113 : BitVec 32 := 0#32
  let c1_i32_114 : BitVec 32 := 1#32
  let arg17 : BitVec 32 := Scf.iv c0_i32_113 c1_i32_114 k0_t1
  let c0_i32_283 : BitVec 32 := 0#32
  let v364 : BitVec 1 := Scalar.cmpi .sgt arg17 c0_i32_283
  let v365 : BitVec 32 := Scalar.extui v364
  let c0_i32_284 : BitVec 32 := 0#32
  let v366 : BitVec 1 := Scalar.cmpi .slt arg17 c0_i32_284
  let v367 : BitVec 32 := Scalar.extui v366
  let v368 : BitVec 32 := Scalar.subi v365 v367
  let c1_i32_282 : BitVec 32 := 1#32
  let c0_i32_285 : BitVec 32 := 0#32
  let v369 : BitVec 1 := Scalar.cmpi .sgt c1_i32_282 c0_i32_285
  let v370 : BitVec 32 := Scalar.extui v369
  let c0_i32_286 : BitVec 32 := 0#32
  let v371 : BitVec 1 := Scalar.cmpi .slt c1_i32_282 c0_i32_286
  let v372 : BitVec 32 := Scalar.extui v371
  let v373 : BitVec 32 := Scalar.subi v370 v372
  let v374 : BitVec 1 := Scalar.cmpi .ne v368 v373
  let v375 : BitVec 32 := Scalar.remsi arg17 c1_i32_282
  let c0_i32_287 : BitVec 32 := 0#32
  let v376 : BitVec 1 := Scalar.cmpi .ne v375 c0_i32_287
  let v377 : BitVec 1 := Scalar.andi v374 v376
  let v363 : BitVec 32 := Scalar.divsi arg17 c1_i32_282
  let c1_i32_288 : BitVec 32 := 1#32
  let v378 : BitVec 32 := Scalar.subi v363 c1_i32_288
  let v379 : BitVec 32 := Scalar.select v377 v378 v363
  let c4_i32_319 : BitVec 32 := 4#32
  let v438 : BitVec 32 := Scalar.subi v379 c4_i32_319
  let c256_i32_340 : BitVec 32 := 256#32
  let v480 : BitVec 32 := Scalar.muli v438 c256_i32_340
  ![0, v480.toNat]
def k0_dev5 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v151 : BitVec 32 := Scalar.muli v2 c4_i32_131
  let v152 : BitVec 32 := Scalar.addi c0_i32_132 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v153 : BitVec 32 := Scalar.muli v5 c2_i32_133
  let v154 : BitVec 32 := Scalar.addi v152 v153
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_134 : BitVec 32 := 1#32
  let v155 : BitVec 32 := Scalar.muli v10 c1_i32_134
  let v156 : BitVec 32 := Scalar.addi v154 v155
  v156.toNat
def k0_dev6 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v177 : BitVec 32 := Scalar.muli v2 c4_i32_154
  let v178 : BitVec 32 := Scalar.addi c0_i32_155 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v179 : BitVec 32 := Scalar.muli v5 c2_i32_156
  let v180 : BitVec 32 := Scalar.addi v178 v179
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_157 : BitVec 32 := 1#32
  let v181 : BitVec 32 := Scalar.muli v10 c1_i32_157
  let v182 : BitVec 32 := Scalar.addi v180 v181
  v182.toNat
@[reducible] def k0_t2_loop : Scf.Loop 32 :=
  let c0_i32_261 : BitVec 32 := 0#32
  let c32_i32_262 : BitVec 32 := 32#32
  let v336 : BitVec 32 := Scalar.addi c0_i32_261 c32_i32_262
  let c1_i32_263 : BitVec 32 := 1#32
  ⟨c0_i32_261, v336, c1_i32_263⟩
def k0_off23 (k0_t2 : Fin k0_t2_loop.trips) : Fin 1 → Nat :=
  let c0_i32_261 : BitVec 32 := 0#32
  let c1_i32_263 : BitVec 32 := 1#32
  let arg17 : BitVec 32 := Scf.iv c0_i32_261 c1_i32_263 k0_t2
  ![arg17.toNat]
def k0_off24 (k0_t2 : Fin k0_t2_loop.trips) : Fin 3 → Nat :=
  let c0_i32_261 : BitVec 32 := 0#32
  let c1_i32_263 : BitVec 32 := 1#32
  let arg17 : BitVec 32 := Scf.iv c0_i32_261 c1_i32_263 k0_t2
  let c0_i32_266 : BitVec 32 := 0#32
  let c0_i32_267 : BitVec 32 := 0#32
  ![arg17.toNat, 0, 0]
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | .hbm, ⟨4, _⟩ => ⟨S2048x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Base.lean ====
/-
The mesh, the semaphores, the buffers and their slots.

Eight devices stand on a 2x2x2 mesh; device `c` is at `(c / 4, c / 2 % 2, c % 2)`.  Device `c` talks with two others:
`yn c`, across the axis `y`, and `zn c`, across the axis `z`.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Tactic

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own part, the protocol's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL

/-- The protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance

/-- The local copies' counters: the right half of the right factor. -/
abbrev EC : UEmb Counters (MT nD τ sig Unit (Elt F) ℕ UU ℕ) := countersEmb (U := UU)

abbrev 𝒱₀ : Variants := Variants.none

/-! ## The mesh -/

set_option backward.proofsInPublic true in
/-- The device across the axis `y`. -/
def yn (c : Dev nD) : Dev nD :=
  ⟨4 * (c.val / 4) + 2 * (1 - c.val / 2 % 2) + c.val % 2, by have := c.isLt; have : nD = 8 := rfl; omega⟩
set_option backward.proofsInPublic true in
/-- The device across the axis `z`. -/
def zn (c : Dev nD) : Dev nD :=
  ⟨4 * (c.val / 4) + 2 * (c.val / 2 % 2) + (1 - c.val % 2), by have := c.isLt; have : nD = 8 := rfl; omega⟩

theorem yn_yn (c : Dev nD) : yn (yn c) = c := by revert c; decide
theorem zn_zn (c : Dev nD) : zn (zn c) = c := by revert c; decide
theorem yn_ne_zn (c : Dev nD) : yn c ≠ zn c := by revert c; decide
theorem yn_zn (c : Dev nD) : yn (zn c) = zn (yn c) := by revert c; decide

def yEquiv : Dev nD ≃ Dev nD := ⟨yn, yn, yn_yn, yn_yn⟩
def zEquiv : Dev nD ≃ Dev nD := ⟨zn, zn, zn_zn, zn_zn⟩

theorem dev1_eq (c : Dev nD) (p : k0_dev1 c < nD) : (⟨k0_dev1 c, p⟩ : Dev nD) = yn c :=
  Fin.ext ((show ∀ c : Dev nD, k0_dev1 c = (yn c).val by decide +kernel) c)
theorem dev2_eq (c : Dev nD) (p : k0_dev2 c < nD) : (⟨k0_dev2 c, p⟩ : Dev nD) = zn c :=
  Fin.ext ((show ∀ c : Dev nD, k0_dev2 c = (zn c).val by decide +kernel) c)
theorem dev3_eq (c : Dev nD) (p : k0_dev3 c < nD) : (⟨k0_dev3 c, p⟩ : Dev nD) = yn c :=
  Fin.ext ((show ∀ c : Dev nD, k0_dev3 c = (yn c).val by decide +kernel) c)
theorem dev4_eq (c : Dev nD) (p : k0_dev4 c < nD) : (⟨k0_dev4 c, p⟩ : Dev nD) = zn c :=
  Fin.ext ((show ∀ c : Dev nD, k0_dev4 c = (zn c).val by decide +kernel) c)
theorem dev5_eq (c : Dev nD) (p : k0_dev5 c < nD) : (⟨k0_dev5 c, p⟩ : Dev nD) = zn c :=
  Fin.ext ((show ∀ c : Dev nD, k0_dev5 c = (zn c).val by decide +kernel) c)
theorem dev6_eq (c : Dev nD) (p : k0_dev6 c < nD) : (⟨k0_dev6 c, p⟩ : Dev nD) = zn c :=
  Fin.ext ((show ∀ c : Dev nD, k0_dev6 c = (zn c).val by decide +kernel) c)

/-! ## The semaphores -/

/-- The kernels' barrier semaphore, which is not scoped to the launch. -/
abbrev barS : Sem sig := (SemArray.scalar (sig.barrier 0 rfl) : Sems sig S_).sem

theorem ds_lt (k : Fin 4) (i : Fin 32) : 3 + 32 * k.val + i.val < sig.nDmaSem := by
  show _ < 131; omega
/-- The copies between devices: `ds 0 i` the `y` send, `ds 1 i` the `y` receive, `ds 2 i` the `z` send, `ds 3 i` the
    `z` receive semaphore of block `i`. -/
abbrev ds (k : Fin 4) (i : Fin 32) : DmaSem sig := ⟨3 + 32 * k.val + i.val, ds_lt k i⟩
/-- The two semaphores of the input copies; -/
abbrev ls (s : Fin 2) : DmaSem sig := ⟨s.val, by show _ < 131; omega⟩
/-- and the one of the output copy. -/
abbrev os : DmaSem sig := ⟨2, by show _ < 131; omega⟩

theorem ls_inb (s : Fin 2) : ∀ a, (![s.val] : Fin 1 → Nat) a + S1.size a ≤ S2.size a := by revert s; decide
theorem ds_inb (i : Fin 32) : ∀ a, (![i.val] : Fin 1 → Nat) a + S1.size a ≤ S32.size a := by revert i; decide +kernel

theorem ls_eq₀ : ∀ s : Fin 2, ((cc0_scratch8.slice (Rect.unit (s := S2) ![s.val] S1.size (ls_inb s))).squeeze S_ squeezes_S1_S_).sem = ls s := by decide +kernel
theorem ys_eq₀ : ∀ i : Fin 32, ((cc0_scratch10.slice (Rect.unit (s := S32) ![i.val] S1.size (ds_inb i))).squeeze S_ squeezes_S1_S_).sem = ds 0 i := by decide +kernel
theorem yr_eq₀ : ∀ i : Fin 32, ((cc0_scratch11.slice (Rect.unit (s := S32) ![i.val] S1.size (ds_inb i))).squeeze S_ squeezes_S1_S_).sem = ds 1 i := by decide +kernel
theorem zs_eq₀ : ∀ i : Fin 32, ((cc0_scratch12.slice (Rect.unit (s := S32) ![i.val] S1.size (ds_inb i))).squeeze S_ squeezes_S1_S_).sem = ds 2 i := by decide +kernel
theorem zr_eq₀ : ∀ i : Fin 32, ((cc0_scratch13.slice (Rect.unit (s := S32) ![i.val] S1.size (ds_inb i))).squeeze S_ squeezes_S1_S_).sem = ds 3 i := by decide +kernel
theorem os_eq : cc0_scratch9.sem = os := by decide +kernel

theorem ls_eq {off : Fin 1 → Nat} {s : Fin 2} (h : off = ![s.val]) (p : ∀ a, off a + S1.size a ≤ S2.size a) :
    ((cc0_scratch8.slice (Rect.unit (s := S2) off S1.size p)).squeeze S_ squeezes_S1_S_).sem = ls s := by subst h; exact ls_eq₀ s
theorem ys_eq {off : Fin 1 → Nat} {i : Fin 32} (h : off = ![i.val]) (p : ∀ a, off a + S1.size a ≤ S32.size a) :
    ((cc0_scratch10.slice (Rect.unit (s := S32) off S1.size p)).squeeze S_ squeezes_S1_S_).sem = ds 0 i := by subst h; exact ys_eq₀ i
theorem yr_eq {off : Fin 1 → Nat} {i : Fin 32} (h : off = ![i.val]) (p : ∀ a, off a + S1.size a ≤ S32.size a) :
    ((cc0_scratch11.slice (Rect.unit (s := S32) off S1.size p)).squeeze S_ squeezes_S1_S_).sem = ds 1 i := by subst h; exact yr_eq₀ i
theorem zs_eq {off : Fin 1 → Nat} {i : Fin 32} (h : off = ![i.val]) (p : ∀ a, off a + S1.size a ≤ S32.size a) :
    ((cc0_scratch12.slice (Rect.unit (s := S32) off S1.size p)).squeeze S_ squeezes_S1_S_).sem = ds 2 i := by subst h; exact zs_eq₀ i
theorem zr_eq {off : Fin 1 → Nat} {i : Fin 32} (h : off = ![i.val]) (p : ∀ a, off a + S1.size a ≤ S32.size a) :
    ((cc0_scratch13.slice (Rect.unit (s := S32) off S1.size p)).squeeze S_ squeezes_S1_S_).sem = ds 3 i := by subst h; exact zr_eq₀ i

abbrev barCell (c : Dev nD) : GSem nD τ sig := ((c : Thread nD τ), .reg barS)
abbrev dCell (c : Dev nD) (k : Fin 4) (i : Fin 32) : GSem nD τ sig := ((c : Thread nD τ), .dma (ds k i))

/-! ## The buffers and their slots -/

abbrev xM : Memref sig .tc .hbm S2048x2048 .f32 := Memref.whole main_arg0
abbrev dyM : Memref sig .tc .hbm S2048x8192 .f32 := Memref.whole main_arg1
abbrev outM : Memref sig .tc .hbm S1024x8192 .bf16 := Memref.whole main_v1
abbrev xsM : Memref sig .tc .vmem S2x2048x256 .f32 := Memref.whole cc0_scratch0
abbrev xaM : Memref sig .tc .vmem S2048x1536 .bf16 := Memref.whole cc0_scratch1
abbrev ysM : Memref sig .tc .vmem S2x2048x256 .f32 := Memref.whole cc0_scratch2
abbrev eM : Memref sig .tc .vmem S32x512x256 .bf16 := Memref.whole cc0_scratch3
abbrev dM : Memref sig .tc .vmem S1024x8192 .bf16 := Memref.whole cc0_scratch4
abbrev r1M : Memref sig .tc .vmem S32x512x256 .bf16 := Memref.whole cc0_scratch5
abbrev r2M : Memref sig .tc .vmem S32x512x256 .bf16 := Memref.whole cc0_scratch6
abbrev osM : Memref sig .tc .vmem S1024x256 .bf16 := Memref.whole cc0_scratch7

theorem slot_inb (i : Fin 32) : ∀ a, (![i.val, 0, 0] : Fin 3 → Nat) a + S1x512x256.size a ≤ S32x512x256.size a := by revert i; decide +kernel
/-- Slot `i` of an array of 32 exchanged blocks. -/
abbrev slot (m : Memref sig .tc .vmem S32x512x256 .bf16) (i : Fin 32) : Memref sig .tc .vmem S512x256 .bf16 :=
  (m.slice (Rect.unit (s := S32x512x256) ![i.val, 0, 0] S1x512x256.size (slot_inb i)) (fun _ => rfl)).squeeze S512x256 squeezes_S1x512x256_S512x256

theorem slot_eq (m : Memref sig .tc .vmem S32x512x256 .bf16) {off : Fin 3 → Nat} {i : Fin 32} (h : off = ![i.val, 0, 0])
    (p : ∀ a, off a + S1x512x256.size a ≤ S32x512x256.size a) :
    (m.slice (Rect.unit (s := S32x512x256) off S1x512x256.size p) (fun _ => rfl)).squeeze S512x256 squeezes_S1x512x256_S512x256 = slot m i := by
  subst h; rfl

theorem half_inb (s : Fin 2) : ∀ a, (![s.val, 0, 0] : Fin 3 → Nat) a + S1x2048x256.size a ≤ S2x2048x256.size a := by revert s; decide
/-- Half `s` of a two-block staging buffer. -/
abbrev half (m : Memref sig .tc .vmem S2x2048x256 .f32) (s : Fin 2) : Memref sig .tc .vmem S2048x256 .f32 :=
  (m.slice (Rect.unit (s := S2x2048x256) ![s.val, 0, 0] S1x2048x256.size (half_inb s)) (fun _ => rfl)).squeeze S2048x256 squeezes_S1x2048x256_S2048x256

/-- The credit of one exchanged block. -/
abbrev N : ℕ := (slot r1M 0).view.dmaCredit
theorem N_pos : 0 < N := View.dmaCredit_pos _ (by decide)
theorem credit_r1 (i : Fin 32) : (slot r1M i).view.dmaCredit = N := rfl
theorem credit_r2 (i : Fin 32) : (slot r2M i).view.dmaCredit = N := rfl
theorem credit_e (i : Fin 32) : (slot eM i).view.dmaCredit = N := rfl

end Cert.DwProof

end
-- ==== Proof.Views.lean ====
/-
Reading and writing the blocks of the kernel's buffers.

An exchanged array holds 32 blocks, one per slot; a wide array holds 256 columns per block.  Both are described by ONE
function of the block's number: `slotFn g` and `colFn g` are the whole arrays whose block `i` is `g i`.
-/
module

public import proofs.«01_k».proof.Proof.Base

@[expose] public section

noncomputable section

namespace Cert.DwProof

open Cert.KernelIdeal Cert.KernelIdeal.Gen

open Idealize.ShloMosaic
open Idealize.ShloMosaic.TcCoe
open Idealize.SL Idealize.SL.RA Idealize.SL.BI
open Idealize.ShloMosaic.ValueIdx

variable {F : FTy → Type} [FloatOps F] {V : Type}

/-! ## Whole arrays from their blocks -/

/-- The array whose slot `i` is `g i`. -/
def slotFn (g : ℕ → S1x512x256.Idx → V) : S32x512x256.Idx → V :=
  fun j => g (j 0).val (ix3 (0 : Fin 1) (j 1) (j 2))

/-- The array whose columns `256 i … 256 i + 255` are `g i`. -/
def colFn {R C : ℕ} (g : ℕ → (⟨2, ![R, 256]⟩ : Shape).Idx → V) : (⟨2, ![R, C]⟩ : Shape).Idx → V :=
  fun j => g ((j 1).val / 256) (ix2 (j 0 : Fin R) ⟨(j 1).val % 256, Nat.mod_lt _ (by decide)⟩)

/-! ## One rectangle of a whole buffer -/

section Whole
variable {κ : Kind} (b : Ref sig κ) (r : Rect b.ty.shape)

/-- A write through a rectangle puts the payload's element at the element's place, -/
theorem write_slice_emb (f : b.ty.Contents (Elt F)) (w : r.shape.Idx → Elt F b.ty.elt) (x : r.shape.Idx) :
    ((View.whole b).slice r).write (Elt F) f w Finset.univ (r.emb x) = w x :=
  (View.write_emb_of_mem (v := (View.whole b).slice r) f w (Finset.mem_univ x)).trans rfl

/-- and changes nothing off the rectangle. -/
theorem write_slice_off (f : b.ty.Contents (Elt F)) (w : r.shape.Idx → Elt F b.ty.elt) {i : b.ty.shape.Idx} (h : i ∉ r.set) :
    ((View.whole b).slice r).write (Elt F) f w Finset.univ i = f i :=
  View.write_of_not_mem (v := (View.whole b).slice r) f w Finset.univ
    (by rw [View.setOn_univ, View.set_slice_whole]; exact h)

end Whole

/-! ## Slots -/

abbrev slotR (i : Fin 32) : Rect S32x512x256 := Rect.unit (s := S32x512x256) ![i.val, 0, 0] S1x512x256.size (slot_inb i)

/-- The place of a block's element in slot `i`. -/
theorem slotR_emb (i : Fin 32) (x : S1x512x256.Idx) : (slotR i).emb x = ix3 i (x 1) (x 2) := by
  have h0 : (x 0).val = 0 := by have : (x 0).val < 1 := (x 0).isLt; omega
  funext a
  match a with
  | ⟨0, _⟩ => exact Fin.ext (show i.val + 1 * (x 0).val = i.val by omega)
  | ⟨1, _⟩ => exact Fin.ext (show 0 + 1 * (x 1).val = (x 1).val by omega)
  | ⟨2, _⟩ => exact Fin.ext (show 0 + 1 * (x 2).val = (x 2).val by omega)

/-- An element is in slot `i` when its first coordinate is `i`. -/
theorem mem_slotR {i : Fin 32} {j : S32x512x256.Idx} : j ∈ (slotR i).set ↔ (j 0).val = i.val := by
  rw [← Rect.map_emb_univ]
  constructor
  · intro h
    obtain ⟨x, -, rfl⟩ := Finset.mem_map.mp h
    rw [slotR_emb]
  · intro h
    refine Finset.mem_map.mpr ⟨ix3 (0 : Fin 1) (j 1) (j 2), Finset.mem_univ _, ?_⟩
    rw [slotR_emb]
    refine Eq.trans ?_ (eq_ix3 (n0 := 32) (n1 := 512) (n2 := 256) j).symm
    rw [show i = j 0 from Fin.ext h.symm]
    rfl

theorem slotFn_emb (g : ℕ → S1x512x256.Idx → V) (i : Fin 32) (x : S1x512x256.Idx) : slotFn g ((slotR i).emb x) = g i.val x := by
  rw [slotR_emb]
  have h0 : x 0 = (0 : Fin 1) := Fin.ext (by have : (x 0).val < 1 := (x 0).isLt; show (x 0).val = 0; omega)
  show g i.val (ix3 (0 : Fin 1) (x 1) (x 2)) = g i.val x
  rw [← h0]; exact congrArg _ (eq_ix3 (n0 := 1) (n1 := 512) (n2 := 256) x).symm

theorem e_set (i : Fin 32) : (slot eM i).view.set = (slotR i).set :=
  (View.set_reshape _ _).trans (View.set_slice_whole _ _)
theorem r1_set (i : Fin 32) : (slot r1M i).view.set = (slotR i).set :=
  (View.set_reshape _ _).trans (View.set_slice_whole _ _)
theorem r2_set (i : Fin 32) : (slot r2M i).view.set = (slotR i).set :=
  (View.set_reshape _ _).trans (View.set_slice_whole _ _)

theorem slotR_disjoint {i i' : Fin 32} (h : i ≠ i') : Disjoint (slotR i).set (slotR i').set :=
  Finset.disjoint_left.mpr fun j hj hj' => h (Fin.ext ((mem_slotR.mp hj).symm.trans (mem_slotR.mp hj')))

theorem slotR_union : (Finset.univ : Finset (Fin 32)).biUnion (fun i => (slotR i).set) = Finset.univ := by
  ext j
  simp only [Finset.mem_biUnion, Finset.mem_univ, true_and, iff_true]
  exact ⟨j 0, mem_slotR.mpr rfl⟩

/-- A block stored in slot `i` of the first exchanged array: the slot's elements are the block's. -/
theorem e_store (f : S32x512x256.Idx → Elt F .bf16) (g : ℕ → S1x512x256.Idx → Elt F .bf16) (i : Fin 32) :
    ∀ j ∈ (slot eM i).view.set, (eM.access (slotR i)).write (Elt F) f (g i.val) Finset.univ j = slotFn g j := by
  intro j hj
  rw [e_set, ← Rect.map_emb_univ] at hj
  obtain ⟨x, -, rfl⟩ := Finset.mem_map.mp hj
  exact (write_slice_emb cc0_scratch3 (slotR i) f (g i.val) x).trans (slotFn_emb g i x).symm

/-- A slot of the second exchanged array written with the same slot of the first: the slot's elements are copied. -/
theorem r1_copy (c : Dev nD) (fd : Buf (Elt F) ((slot r1M i).view.loc (c : Thread nD τ))) (f : S32x512x256.Idx → Elt F .bf16) :
    ∀ j ∈ (slot r1M i).view.set, (slot r1M i).view.write (Elt F) fd ((slot eM i).view.read (Elt F) f) Finset.univ j = f j := by
  intro j hj
  obtain ⟨x, -, rfl⟩ := Finset.mem_map.mp hj
  exact (View.write_emb_of_mem (v := (slot r1M i).view) fd _ (Finset.mem_univ x)).trans rfl

/-- A slot of the third exchanged array written with the same slot of the second: the slot's elements are copied. -/
theorem r2_copy (c : Dev nD) (fd : Buf (Elt F) ((slot r2M i).view.loc (c : Thread nD τ))) (f : S32x512x256.Idx → Elt F .bf16) :
    ∀ j ∈ (slot r2M i).view.set, (slot r2M i).view.write (Elt F) fd ((slot r1M i).view.read (Elt F) f) Finset.univ j = f j := by
  intro j hj
  obtain ⟨x, -, rfl⟩ := Finset.mem_map.mp hj
  exact (View.write_emb_of_mem (v := (slot r2M i).view) fd _ (Finset.mem_univ x)).trans rfl

/-- A load of slot `i` reads block `i`. -/
theorem r1_load (g : ℕ → S1x512x256.Idx → Elt F .bf16) (i : Fin 32) :
    r1M.view.readAt (Elt F) (slotR i).toLoadRect (slotFn g) = g i.val :=
  funext fun x => slotFn_emb g i x
theorem r2_load (g : ℕ → S1x512x256.Idx → Elt F .bf16) (i : Fin 32) :
    r2M.view.readAt (Elt F) (slotR i).toLoadRect (slotFn g) = g i.val :=
  funext fun x => slotFn_emb g i x

/-! ## Column blocks -/

section Cols
variable {R C : ℕ}

theorem col_inb {i : ℕ} (h : 256 * i + 256 ≤ C) : ∀ a, (![0, 256 * i] : Fin 2 → Nat) a + (⟨2, ![R, 256]⟩ : Shape).size a ≤ (⟨2, ![R, C]⟩ : Shape).size a := by
  intro a
  match a with
  | ⟨0, _⟩ => exact Nat.le_of_eq (Nat.zero_add R)
  | ⟨1, _⟩ => exact h

/-- Columns `256 i … 256 i + 255` of a wide array. -/
abbrev colR (R C i : ℕ) (h : 256 * i + 256 ≤ C) : Rect (⟨2, ![R, C]⟩ : Shape) :=
  Rect.unit (s := ⟨2, ![R, C]⟩) ![0, 256 * i] (⟨2, ![R, 256]⟩ : Shape).size (col_inb h)

theorem colR_emb {i : ℕ} (h : 256 * i + 256 ≤ C) (x : (⟨2, ![R, 256]⟩ : Shape).Idx) :
    (colR R C i h).emb x = ix2 (x 0 : Fin R) (⟨256 * i + (x 1).val, by have : (x 1).val < 256 := (x 1).isLt; omega⟩ : Fin C) := by
  funext a
  match a with
  | ⟨0, _⟩ => exact Fin.ext (show 0 + 1 * (x 0).val = (x 0).val by omega)
  | ⟨1, _⟩ => exact Fin.ext (show 256 * i + 1 * (x 1).val = 256 * i + (x 1).val by omega)

theorem colFn_emb (g : ℕ → (⟨2, ![R, 256]⟩ : Shape).Idx → V) {i : ℕ} (h : 256 * i + 256 ≤ C) (x : (⟨2, ![R, 256]⟩ : Shape).Idx) :
    colFn (C := C) g ((colR R C i h).emb x) = g i x := by
  have hx : (x 1).val < 256 := (x 1).isLt
  rw [colR_emb]
  unfold colFn
  have h1 : (256 * i + (x 1).val) / 256 = i := by omega
  have h2 : (256 * i + (x 1).val) % 256 = (x 1).val := by omega
  show g ((256 * i + (x 1).val) / 256) (ix2 (x 0 : Fin R) ⟨(256 * i + (x 1).val) % 256, _⟩) = g i x
  rw [h1]
  refine congrArg _ (Eq.trans ?_ (eq_ix2 (n0 := R) (n1 := 256) x).symm)
  exact congrArg (ix2 (x 0 : Fin R)) (Fin.ext h2)

/-- An element is in block `i` when its column is. -/
theorem mem_colR {i : ℕ} (h : 256 * i + 256 ≤ C) {j : (⟨2, ![R, C]⟩ : Shape).Idx} :
    j ∈ (colR R C i h).set ↔ 256 * i ≤ (j 1).val ∧ (j 1).val < 256 * i + 256 := by
  rw [← Rect.map_emb_univ]
  constructor
  · intro hj
    obtain ⟨x, -, rfl⟩ := Finset.mem_map.mp hj
    have hx : (x 1).val < 256 := (x 1).isLt
    rw [colR_emb]
    exact ⟨Nat.le_add_right _ _, Nat.add_lt_add_left hx _⟩
  · rintro ⟨h1, h2⟩
    refine Finset.mem_map.mpr ⟨ix2 (j 0 : Fin R) (⟨(j 1).val - 256 * i, by omega⟩ : Fin 256), Finset.mem_univ _, ?_⟩
    rw [colR_emb]
    refine Eq.trans ?_ (eq_ix2 (n0 := R) (n1 := C) j).symm
    exact congrArg (ix2 (j 0 : Fin R)) (Fin.ext (show 256 * i + ((j 1).val - 256 * i) = (j 1).val by omega))

/-- The first `n` column blocks of `f` are those of `g`. -/
def ColsTo (g : ℕ → (⟨2, ![R, 256]⟩ : Shape).Idx → V) (n : ℕ) (f : (⟨2, ![R, C]⟩ : Shape).Idx → V) : Prop :=
  ∀ j : (⟨2, ![R, C]⟩ : Shape).Idx, (j 1).val < 256 * n → f j = colFn g j

theorem ColsTo.zero (g : ℕ → (⟨2, ![R, 256]⟩ : Shape).Idx → V) (f : (⟨2, ![R, C]⟩ : Shape).Idx → V) : ColsTo g 0 f :=
  fun j h => absurd h (by omega)

theorem ColsTo.all {g : ℕ → (⟨2, ![R, 256]⟩ : Shape).Idx → V} {n : ℕ} {f : (⟨2, ![R, C]⟩ : Shape).Idx → V} (h : ColsTo g n f)
    (hn : C ≤ 256 * n) : f = colFn g :=
  funext fun j => h j (Nat.lt_of_lt_of_le (show (j 1).val < C from (j 1).isLt) hn)

/-- Block `i` read out of an array whose first `n > i` blocks are known. -/
theorem ColsTo.read {g : ℕ → (⟨2, ![R, 256]⟩ : Shape).Idx → V} {n : ℕ} {f : (⟨2, ![R, C]⟩ : Shape).Idx → V} (hf : ColsTo g n f)
    {i : ℕ} (hi : i < n) (h : 256 * i + 256 ≤ C) (x : (⟨2, ![R, 256]⟩ : Shape).Idx) : f ((colR R C i h).emb x) = g i x := by
  rw [← colFn_emb g h x]
  refine hf _ ?_
  have hx : (x 1).val < 256 := (x 1).isLt
  rw [colR_emb]
  show 256 * i + (x 1).val < 256 * n
  omega

/-- Block `n` written into an array whose first `n` blocks are known. -/
theorem ColsTo.step {g : ℕ → (⟨2, ![R, 256]⟩ : Shape).Idx → V} {n : ℕ} {f f' : (⟨2, ![R, C]⟩ : Shape).Idx → V} (hf : ColsTo g n f)
    (h : 256 * n + 256 ≤ C) (hin : ∀ x, f' ((colR R C n h).emb x) = g n x) (hoff : ∀ j, j ∉ (colR R C n h).set → f' j = f j) :
    ColsTo g (n + 1) f' := by
  intro j hj
  by_cases hm : j ∈ (colR R C n h).set
  · rw [← Rect.map_emb_univ] at hm
    obtain ⟨x, -, rfl⟩ := Finset.mem_map.mp hm
    rw [hin, colFn_emb g h x]
  · rw [hoff j hm]
    refine hf j ?_
    by_contra hc
    exact hm ((mem_colR h).mpr ⟨by omega, by omega⟩)

end Cols

theorem dM_step {g : ℕ → S1024x256.Idx → Elt F .bf16} {n : ℕ} {f : S1024x8192.Idx → Elt F .bf16} (hf : ColsTo g n f) (h : 256 * n + 256 ≤ 8192) :
    ColsTo (C := 8192) g (n + 1) ((dM.access (colR 1024 8192 n h)).write (Elt F) f (g n) Finset.univ) :=
  hf.step h (fun x => write_slice_emb cc0_scratch4 (colR 1024 8192 n h) f (g n) x) (fun j hj => write_slice_off cc0_scratch4 (colR 1024 8192 n h) f (g n) hj)
theorem dM_load {g : ℕ → S1024x256.Idx → Elt F .bf16} {n : ℕ} {f : S1024x8192.Idx → Elt F .bf16} (hf : ColsTo g n f) {i : ℕ} (hi : i < n) (h : 256 * i + 256 ≤ 8192) :
    dM.view.readAt (Elt F) (colR 1024 8192 i h).toLoadRect f = g i :=
  funext fun x => hf.read hi h x

theorem outM_step {g : ℕ → S1024x256.Idx → Elt F .bf16} {n : ℕ} {f : S1024x8192.Idx → Elt F .bf16} (hf : ColsTo g n f) (h : 256 * n + 256 ≤ 8192) :
    ColsTo (C := 8192) g (n + 1) ((outM.access (colR 1024 8192 n h)).write (Elt F) f (g n) Finset.univ) :=
  hf.step h (fun x => write_slice_emb main_v1 (colR 1024 8192 n h) f (g n) x) (fun j hj => write_slice_off main_v1 (colR 1024 8192 n h) f (g n) hj)

theorem xaM_step {g : ℕ → S2048x256.Idx → Elt F .bf16} {n : ℕ} {f : S2048x1536.Idx → Elt F .bf16} (hf : ColsTo g n f) (h : 256 * n + 256 ≤ 1536) :
    ColsTo (C := 1536) g (n + 1) ((xaM.access (colR 2048 1536 n h)).write (Elt F) f (g n) Finset.univ) :=
  hf.step h (fun x => write_slice_emb cc0_scratch1 (colR 2048 1536 n h) f (g n) x) (fun j hj => write_slice_off cc0_scratch1 (colR 2048 1536 n h) f (g n) hj)
theorem hz2 : (![0, 0] : Fin 2 → Nat) = fun _ => 0 := funext fun a => by fin_cases a <;> rfl
theorem xaM_load (f : S2048x1536.Idx → Elt F .bf16) (p) :
    xaM.view.readAt (Elt F) (Rect.unit (s := S2048x1536) ![0, 0] S2048x1536.size p).toLoadRect f = f :=
  Memref.readAt_unit_zero (Elt F) cc0_scratch1 hz2 _ f

/-! ## Staged input blocks -/

abbrev halfR (s : Fin 2) : Rect S2x2048x256 := Rect.unit (s := S2x2048x256) ![s.val, 0, 0] S1x2048x256.size (half_inb s)

/-- A block of 256 columns read as a one-block array. -/
def lift1 (w : S2048x256.Idx → V) : S1x2048x256.Idx → V := fun j => w (ix2 (j 1) (j 2))

theorem lift1_reshape (x : S2048x256.Idx) :
    (Shape.reshapeEquiv squeezes_S1x2048x256_S2048x256.numel_eq x : S1x2048x256.Idx) = ix3 (0 : Fin 1) (x 0) (x 1) := by
  rw [Shape.reshapeEquiv_cons_one]
  funext a
  match a with
  | ⟨0, _⟩ => rfl
  | ⟨1, _⟩ => rfl
  | ⟨2, _⟩ => rfl

theorem half_read {f : S2x2048x256.Idx → Elt F .f32} {w : S2048x256.Idx → Elt F .f32} (s : Fin 2)
    (h : ∀ x, f ((halfR s).emb (Shape.reshapeEquiv squeezes_S1x2048x256_S2048x256.numel_eq x)) = w x) (j : S1x2048x256.Idx) :
    f ((halfR s).emb j) = lift1 w j := by
  have h0 : j 0 = (0 : Fin 1) := Fin.ext (by have : (j 0).val < 1 := (j 0).isLt; show (j 0).val = 0; omega)
  have e : j = Shape.reshapeEquiv squeezes_S1x2048x256_S2048x256.numel_eq (ix2 (j 1 : Fin 2048) (j 2 : Fin 256)) := by
    rw [lift1_reshape]
    refine (eq_ix3 (n0 := 1) (n1 := 2048) (n2 := 256) j).trans ?_
    rw [h0]
    rfl
  conv_lhs => rw [e]
  exact h _

/-- What a load of half `s` reads after a copy into it landed: the copied block. -/
theorem xs_load (s : Fin 2) (fd : S2x2048x256.Idx → Elt F .f32) (w : S2048x256.Idx → Elt F .f32) :
    xsM.view.readAt (Elt F) (halfR s).toLoadRect ((half xsM s).view.write (Elt F) fd w Finset.univ) = lift1 w :=
  funext fun j => half_read s (fun x => (View.write_emb_of_mem (v := (half xsM s).view) fd w (Finset.mem_univ x)).trans rfl) j
theorem ys_load (s : Fin 2) (fd : S2x2048x256.Idx → Elt F .f32) (w : S2048x256.Idx → Elt F .f32) :
    ysM.view.readAt (Elt F) (halfR s).toLoadRect ((half ysM s).view.write (Elt F) fd w Finset.univ) = lift1 w :=
  funext fun j => half_read s (fun x => (View.write_emb_of_mem (v := (half ysM s).view) fd w (Finset.mem_univ x)).trans rfl) j

end Cert.DwProof

end
-- ==== Proof.Contents.lean ====
/-
What every buffer of a device holds, as a function of the arguments of all devices: the blocks the kernel computes, sends
and receives, at any float values.
-/
module

public import proofs.«01_k».proof.Proof.Views

@[expose] public section

noncomputable section

namespace Cert.DwProof

open Cert.KernelIdeal Cert.KernelIdeal.Gen

open Idealize.ShloMosaic
open Idealize.ShloMosaic.TcCoe
open Idealize.SL Idealize.SL.RA Idealize.SL.BI
open Idealize.ShloMosaic.ValueIdx

variable {F : FTy → Type} [FloatOps F]
variable (m : (ℓ : Loc nD τ sig) → Buf (Elt F) ℓ)

/-! ## The arguments -/

/-- Device `c`'s rows of `x`, -/
def xF (c : Dev nD) : S2048x2048.Idx → Elt F .f32 := m (xM.view.loc (c : Thread nD τ))
/-- and of `dy`. -/
def dyF (c : Dev nD) : S2048x8192.Idx → Elt F .f32 := m (dyM.view.loc (c : Thread nD τ))
def outF (c : Dev nD) : S1024x8192.Idx → Elt F .bf16 := m (outM.view.loc (c : Thread nD τ))

/-- The first column of the `j`-th staged block of `x`: two blocks of the columns sent to the `y` neighbour's row block,
    then the four of the device's own row block. -/
def xCol (c : Dev nD) (j : ℕ) : ℕ :=
  if j < 2 then 512 * (c.val % 2) + 1024 - 1024 * (c.val / 2 % 2) + 256 * j else 1024 * (c.val / 2 % 2) + 256 * (j - 2)

theorem xCol_lt (c : Dev nD) {j : ℕ} (h : j < 6) : xCol c j + 256 ≤ 2048 := by
  unfold xCol; split <;> omega

/-- The `j`-th staged block of `x`, -/
def xcols (c : Dev nD) (j : ℕ) : S2048x256.Idx → Elt F .f32 :=
  fun i => xF m c (ix2 (i 0 : Fin 2048) (⟨(xCol c j + (i 1).val) % 2048, Nat.mod_lt _ (by decide)⟩ : Fin 2048))
/-- the `t`-th of `dy`. -/
def dycols (c : Dev nD) (t : ℕ) : S2048x256.Idx → Elt F .f32 :=
  fun i => dyF m c (ix2 (i 0 : Fin 2048) (⟨(256 * t + (i 1).val) % 8192, Nat.mod_lt _ (by decide)⟩ : Fin 8192))

/-- A slice of the argument at column `k`, read out: its columns from `k` on. -/
theorem x_read {off : Fin 2 → Nat} {c : Dev nD} {j : ℕ} (h : off = ![0, xCol c j]) (hj : j < 6)
    (p : ∀ a, off a + S2048x256.size a ≤ S2048x2048.size a) :
    (xM.slice (Rect.unit (s := S2048x2048) off S2048x256.size p) (fun _ => rfl)).view.read (Elt F) (xF m c) = xcols m c j := by
  subst h
  funext i
  have hi : (i 1).val < 256 := (i 1).isLt
  have := xCol_lt c hj
  show xF m c ((Rect.unit (s := S2048x2048) ![0, xCol c j] S2048x256.size p).emb i) = xcols m c j i
  unfold xcols
  refine congrArg _ (funext fun a => ?_)
  match a with
  | ⟨0, _⟩ => exact Fin.ext (show 0 + 1 * (i 0).val = (i 0).val by omega)
  | ⟨1, _⟩ => exact Fin.ext (show xCol c j + 1 * (i 1).val = (xCol c j + (i 1).val) % 2048 by omega)
theorem dy_read {off : Fin 2 → Nat} {c : Dev nD} {t : ℕ} (h : off = ![0, 256 * t]) (ht : t < 32)
    (p : ∀ a, off a + S2048x256.size a ≤ S2048x8192.size a) :
    (dyM.slice (Rect.unit (s := S2048x8192) off S2048x256.size p) (fun _ => rfl)).view.read (Elt F) (dyF m c) = dycols m c t := by
  subst h
  funext i
  have hi : (i 1).val < 256 := (i 1).isLt
  show dyF m c ((Rect.unit (s := S2048x8192) ![0, 256 * t] S2048x256.size p).emb i) = dycols m c t i
  unfold dycols
  refine congrArg _ (funext fun a => ?_)
  match a with
  | ⟨0, _⟩ => exact Fin.ext (show 0 + 1 * (i 0).val = (i 0).val by omega)
  | ⟨1, _⟩ => exact Fin.ext (show 256 * t + 1 * (i 1).val = (256 * t + (i 1).val) % 8192 by omega)

/-! ## What a device computes -/

/-- The `j`-th block of the rounded columns of `x`; -/
def xaBlk (c : Dev nD) (j : ℕ) : S2048x256.Idx → Elt F .bf16 := k0_pay10 (lift1 (xcols m c j))
/-- all six. -/
def xaAll (c : Dev nD) : S2048x1536.Idx → Elt F .bf16 := colFn (xaBlk m c)

/-- The product of the columns with the `t`-th block of `dy`; -/
def res (c : Dev nD) (t : ℕ) : S1536x256.Idx → Elt F .f32 := k0_pay7 (lift1 (dycols m c t)) (xaAll m c)
/-- its first 512 rows, which the `y` neighbour needs; -/
def eBlk (c : Dev nD) (t : ℕ) : S1x512x256.Idx → Elt F .bf16 := k0_pay8 (res m c t)
def eAll (c : Dev nD) : S32x512x256.Idx → Elt F .bf16 := slotFn (eBlk m c)
/-- its other 1024 rows, which stay. -/
def dBlk (c : Dev nD) (t : ℕ) : S1024x256.Idx → Elt F .bf16 := k0_pay9 (res m c t)

/-- The device's place along `z`, as the kernel computes it; -/
def v8 (c : Dev nD) : BitVec 32 := Scalar.remsi (Scalar.divsi (Dev.word c) 1#32) 2#32
def v137 (c : Dev nD) : BitVec 1 := Scalar.cmpi .eq (v8 c) 0#32

/-- The top and the bottom half of a tile of the result, from the device's own rows, the rows received across `y` and the
    rows received across `z`. -/
def tileT (c : Dev nD) (d : S1024x256.Idx → Elt F .bf16) (a b : S1x512x256.Idx → Elt F .bf16) : S512x256.Idx → Elt F .bf16 :=
  k0_pay5 (v137 c) d a b
def tileB (c : Dev nD) (d : S1024x256.Idx → Elt F .bf16) (a b : S1x512x256.Idx → Elt F .bf16) : S512x256.Idx → Elt F .bf16 :=
  k0_pay17 (k0_pay6 (v137 c) d a b)

/-- Two halves of 512 rows put together. -/
def stack {V : Type} (p q : S512x256.Idx → V) : S1024x256.Idx → V := fun j =>
  if h : (j 0).val < 512 then p (ix2 (⟨(j 0).val, h⟩ : Fin 512) (j 1 : Fin 256))
  else q (ix2 (⟨(j 0).val - 512, by have : (j 0).val < 1024 := (j 0).isLt; omega⟩ : Fin 512) (j 1 : Fin 256))

/-- Tile `i` of the result on device `c`; -/
def outBlk (c : Dev nD) (i : ℕ) : S1024x256.Idx → Elt F .bf16 :=
  stack (tileT c (dBlk m c i) (eBlk m (yn c) i) (eBlk m (yn (zn c)) i)) (tileB c (dBlk m c i) (eBlk m (yn c) i) (eBlk m (yn (zn c)) i))
/-- all 32. -/
def outAll (c : Dev nD) : S1024x8192.Idx → Elt F .bf16 := colFn (outBlk m c)

/-- The output staging buffer after its two stores. -/
theorem os_stores (f : S1024x256.Idx → Elt F .bf16) (p q : S512x256.Idx → Elt F .bf16) (hp hq) :
    (osM.access (Rect.unit (s := S1024x256) ![512, 0] S512x256.size hq)).write (Elt F)
      ((osM.access (Rect.unit (s := S1024x256) ![0, 0] S512x256.size hp)).write (Elt F) f p Finset.univ) q Finset.univ = stack p q := by
  funext j
  have hj : (j 0).val < 1024 := (j 0).isLt
  by_cases h : (j 0).val < 512
  · have hn : j ∉ (Rect.unit (s := S1024x256) ![512, 0] S512x256.size hq).set := by
      intro hm
      rw [← Rect.map_emb_univ] at hm
      obtain ⟨x, -, rfl⟩ := Finset.mem_map.mp hm
      have : 512 + 1 * (x 0).val < 512 := h
      omega
    rw [show stack p q j = p (ix2 (⟨(j 0).val, h⟩ : Fin 512) (j 1 : Fin 256)) from dif_pos h]
    have e : (Rect.unit (s := S1024x256) ![0, 0] S512x256.size hp).emb (ix2 (⟨(j 0).val, h⟩ : Fin 512) (j 1 : Fin 256)) = j := by
      funext a
      match a with
      | ⟨0, _⟩ => exact Fin.ext (show 0 + 1 * (j 0).val = (j 0).val by omega)
      | ⟨1, _⟩ => exact Fin.ext (show 0 + 1 * (j 1).val = (j 1).val by omega)
    refine (write_slice_off cc0_scratch7 (Rect.unit (s := S1024x256) ![512, 0] S512x256.size hq) _ q hn).trans ?_
    have hw := write_slice_emb cc0_scratch7 (Rect.unit (s := S1024x256) ![0, 0] S512x256.size hp) f p (ix2 (⟨(j 0).val, h⟩ : Fin 512) (j 1 : Fin 256))
    rw [e] at hw
    exact hw
  · rw [show stack p q j = q (ix2 (⟨(j 0).val - 512, by omega⟩ : Fin 512) (j 1 : Fin 256)) from dif_neg h]
    have e : (Rect.unit (s := S1024x256) ![512, 0] S512x256.size hq).emb (ix2 (⟨(j 0).val - 512, by omega⟩ : Fin 512) (j 1 : Fin 256)) = j := by
      funext a
      match a with
      | ⟨0, _⟩ => exact Fin.ext (show 512 + 1 * ((j 0).val - 512) = (j 0).val by omega)
      | ⟨1, _⟩ => exact Fin.ext (show 0 + 1 * (j 1).val = (j 1).val by omega)
    have hw := write_slice_emb cc0_scratch7 (Rect.unit (s := S1024x256) ![512, 0] S512x256.size hq)
      ((osM.access (Rect.unit (s := S1024x256) ![0, 0] S512x256.size hp)).write (Elt F) f p Finset.univ) q
      (ix2 (⟨(j 0).val - 512, by omega⟩ : Fin 512) (j 1 : Fin 256))
    rw [e] at hw
    exact hw

end Cert.DwProof

end
-- ==== Proof.Sched.lean ====
/-
The protocol of the exchange: what each semaphore's credit hands over, what each device owes, and the order in which the
semaphores are waited for.
-/
module

public import proofs.«01_k».proof.Proof.Contents

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the 32 blocks, the first `n` of them done -/

/-- One member of a family apart from the rest, -/
theorem fam_erase {I : Type} [DecidableEq I] {s : Finset I} {i : I} (h : i ∈ s) {Φ : I → sProp 𝕄} :
    bigSep s Φ = iprop(Φ i ∗ bigSep (s.erase i) Φ) := BI.bigSep_erase h
/-- or alone. -/
theorem fam_elim {I : Type} [DecidableEq I] {s : Finset I} {i : I} (h : i ∈ s) {Φ : I → sProp 𝕄} : (bigSep s Φ : sProp 𝕄) ⊢ Φ i := by
  rw [fam_erase h]; exact sep_elim_left

/-- Block `i`'s resources: `P' i` when it is among the first `n`, else `P i`. -/
def Fam (P P' : Fin 32 → sProp 𝕄) (n : ℕ) : sProp 𝕄 := bigSep Finset.univ fun i : Fin 32 => if n ≤ i.val then P i else P' i

theorem Fam_zero (P P' : Fin 32 → sProp 𝕄) : Fam P P' 0 = bigSep Finset.univ P :=
  bigSep_congr fun i _ => if_pos (Nat.zero_le _)
theorem Fam_all (P P' : Fin 32 → sProp 𝕄) : Fam P P' 32 = bigSep Finset.univ P' :=
  bigSep_congr fun i _ => if_neg (Nat.not_le.mpr i.isLt)

/-- The next block's resources come out, and go back done. -/
theorem Fam_step {P P' : Fin 32 → sProp 𝕄} (i : Fin 32) : Fam P P' i.val ⊢ iprop(P i ∗ (P' i -∗ Fam P P' (i.val + 1))) := by
  unfold Fam
  rw [fam_erase (Finset.mem_univ i) (Φ := fun j : Fin 32 => if i.val ≤ j.val then P j else P' j),
    fam_erase (Finset.mem_univ i) (Φ := fun j : Fin 32 => if i.val + 1 ≤ j.val then P j else P' j),
    if_pos le_rfl, if_neg (Nat.not_succ_le_self _),
    bigSep_congr (Φ := fun j : Fin 32 => if i.val ≤ j.val then P j else P' j) (Ψ := fun j : Fin 32 => if i.val + 1 ≤ j.val then P j else P' j)
      (s := Finset.univ.erase i) (fun j hj => by
        have hne : j.val ≠ i.val := fun h => (Finset.ne_of_mem_erase hj) (Fin.ext h)
        by_cases h : i.val ≤ j.val
        · rw [if_pos h, if_pos (by omega)]
        · rw [if_neg h, if_neg (by omega)])]
  iintro ⟨H, Hr⟩
  isplitl [H]; · iexact H
  iintro H'
  isplitl [H'] <;> iassumption

/-- A block that is done lends its resources. -/
theorem Fam_borrow {P P' : Fin 32 → sProp 𝕄} {n : ℕ} (i : Fin 32) (h : i.val < n) : Fam P P' n ⊢ iprop(P' i ∗ (P' i -∗ Fam P P' n)) := by
  unfold Fam
  rw [fam_erase (Finset.mem_univ i) (Φ := fun j : Fin 32 => if n ≤ j.val then P j else P' j), if_neg (Nat.not_le.mpr h)]
  iintro ⟨H, Hr⟩
  isplitl [H]; · iexact H
  iintro H'
  isplitl [H'] <;> iassumption

/-! ## Slots held -/

/-- Slot `i` of the first exchanged array (the rows sent across `y`) on device `c`, holding its elements of `f`; -/
def eP (c : Dev nD) (i : Fin 32) (f : S32x512x256.Idx → Elt F .bf16) : sProp 𝕄 :=
  (slot eM i).view.loc (c : Thread nD τ) ↦[(slot eM i).view.set]{fullShare} f
/-- of the second (the rows received across `y`), at a share; -/
def r1P (c : Dev nD) (i : Fin 32) (q : PosShare TreeShare) (f : S32x512x256.Idx → Elt F .bf16) : sProp 𝕄 :=
  (slot r1M i).view.loc (c : Thread nD τ) ↦[(slot r1M i).view.set]{q} f
/-- of the third (the rows received across `z`). -/
def r2P (c : Dev nD) (i : Fin 32) (f : S32x512x256.Idx → Elt F .bf16) : sProp 𝕄 :=
  (slot r2M i).view.loc (c : Thread nD τ) ↦[(slot r2M i).view.set]{fullShare} f

instance eP_storable (c : Dev nD) (i : Fin 32) (f) : BI.Storable (upEmb : UEmb _ 𝕄) (eP (F := F) c i f) := by unfold eP; infer_instance
instance r1P_storable (c : Dev nD) (i : Fin 32) (q f) : BI.Storable (upEmb : UEmb _ 𝕄) (r1P (F := F) c i q f) := by unfold r1P; infer_instance
instance r2P_storable (c : Dev nD) (i : Fin 32) (f) : BI.Storable (upEmb : UEmb _ 𝕄) (r2P (F := F) c i f) := by unfold r2P; infer_instance

/-! ## The schedule -/

/-- The kind of a DMA semaphore among the exchange's four, and its block. -/
def kOf (q : DmaSem sig) : ℕ := (q.val - 3) / 32
def iOf (q : DmaSem sig) : Fin 32 := ⟨(q.val - 3) % 32, Nat.mod_lt _ (by decide)⟩
theorem kOf_ds (k : Fin 4) (i : Fin 32) : kOf (ds k i) = k.val := by
  show (3 + 32 * k.val + i.val - 3) / 32 = k.val; omega
theorem iOf_ds (k : Fin 4) (i : Fin 32) : iOf (ds k i) = i :=
  Fin.ext (show (3 + 32 * k.val + i.val - 3) % 32 = i.val by omega)

/-- What the `y` neighbour's signal hands over: its slots for the rows received across `y`; -/
def barY (c : Dev nD) : sProp 𝕄 := bigSep Finset.univ fun i : Fin 32 => iprop(∃ f, r1P (yn c) i fullShare f)
/-- the `z` neighbour's signal: its slots for the rows received across `z`. -/
def barZ (c : Dev nD) : sProp 𝕄 := bigSep Finset.univ fun i : Fin 32 => iprop(∃ f, r2P (zn c) i f)

/-- What a block's semaphore hands over. -/
def dPay (c : Dev nD) (k : ℕ) (i : Fin 32) : sProp 𝕄 :=
  if k = 0 then eP c i (eAll m c)
  else if k = 1 then r1P c i fullShare (eAll m (yn c))
  else if k = 2 then r1P c i fullShare.left (eAll m (yn c))
  else r2P c i (eAll m (yn (zn c)))

/-- One round: a barrier semaphore has a duty for each neighbour, of one unit; each of the exchange's DMA semaphores has
    the duty of one block's credit. -/
def Rd : Rounds.Schedule (GSem nD τ sig) Bool 𝕄 where
  duties g r := if r = 0 ∧ g.1.2 = .tc then (match g.2 with
    | .reg _ => Finset.univ
    | .dma q => if 3 ≤ q.val then {false} else ∅) else ∅
  unitless _ := False
  amount g _ _ := match g.2 with
    | .reg _ => 1
    | .dma _ => N
  payload g _ d := match g.2 with
    | .reg _ => if d then barZ g.1.1 else barY g.1.1
    | .dma q => dPay m g.1.1 (kOf q) (iOf q)
  amount_pos g r d _ := by
    rcases g with ⟨t, s | s⟩
    · exact Nat.one_pos
    · exact N_pos

instance barY_storable (c : Dev nD) : BI.Storable (upEmb : UEmb _ 𝕄) (barY (F := F) c) := by unfold barY; infer_instance
instance barZ_storable (c : Dev nD) : BI.Storable (upEmb : UEmb _ 𝕄) (barZ (F := F) c) := by unfold barZ; infer_instance
instance dPay_storable (c : Dev nD) (k : ℕ) (i : Fin 32) : BI.Storable (upEmb : UEmb _ 𝕄) (dPay (F := F) m c k i) := by
  unfold dPay; (repeat' split) <;> infer_instance
instance Rd_payload_storable (g : GSem nD τ sig) (r : ℕ) (d : Bool) : BI.Storable (upEmb : UEmb _ 𝕄) ((Rd (F := F) m).payload g r d) := by
  rcases g with ⟨t, s | q⟩
  · show BI.Storable upEmb (if d then barZ t.1 else barY t.1)
    split <;> infer_instance
  · show BI.Storable upEmb (dPay m t.1 (kOf q) (iOf q))
    infer_instance

section Cells
variable (c : Dev nD) (k : Fin 4) (i : Fin 32)

theorem duties_bar : (Rd (F := F) m).duties (barCell c) 0 = Finset.univ := by dsimp only [Rd]; exact if_pos ⟨rfl, rfl⟩
theorem duties_d : (Rd (F := F) m).duties (dCell c k i) 0 = {false} := by
  dsimp only [Rd]
  rw [if_pos ⟨rfl, rfl⟩]
  exact if_pos (show 3 ≤ 3 + 32 * k.val + i.val by omega)
theorem duties_later (g : GSem nD τ sig) : ∀ r, 1 ≤ r → (Rd (F := F) m).duties g r = ∅ := fun r hr => if_neg fun h => by omega
theorem amount_bar (d : Bool) : (Rd (F := F) m).amount (barCell c) 0 d = 1 := rfl
theorem amount_d (d : Bool) : (Rd (F := F) m).amount (dCell c k i) 0 d = N := rfl
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (Rd (F := F) m).expect (dCell c k i) 0 = N := by
  unfold Schedule.expect Schedule.amountOf; rw [duties_d, Finset.sum_singleton, amount_d]
theorem payload_false : (Rd (F := F) m).payload (barCell c) 0 false = barY c := rfl
theorem payload_true : (Rd (F := F) m).payload (barCell c) 0 true = barZ c := rfl
theorem payload_d (d : Bool) : (Rd (F := F) m).payload (dCell c k i) 0 d = dPay m c k.val i := by
  show dPay m c (kOf (ds k i)) (iOf (ds k i)) = _
  rw [kOf_ds, iOf_ds]
theorem rest_bar : bigSep ((Rd (F := F) m).duties (barCell c) 0 \ ∅) (fun d => (Rd (F := F) m).payload (barCell c) 0 d) = iprop(barY c ∗ barZ c) := by
  rw [Finset.sdiff_empty, duties_bar, bigSep_univ_eq_bigSepL [false, true] (by decide) (by decide), bigSepL_cons_cons, bigSepL_singleton,
    payload_false, payload_true]
  rfl
theorem rest_d : bigSep ((Rd (F := F) m).duties (dCell c k i) 0 \ ∅) (fun d => (Rd (F := F) m).payload (dCell c k i) 0 d) = dPay m c k.val i := by
  rw [Finset.sdiff_empty, duties_d, bigSep_singleton, payload_d]

end Cells

/-! ## All cells, with what is known of them for good -/

abbrev KI : Type := Dev nD × Option (Fin 4 × Fin 32)
/-- Every cell of the exchange: a device's barrier semaphore and its 128 DMA semaphores. -/
abbrev kcell (x : KI) : GSem nD τ sig := match x.2 with
  | none => barCell x.1
  | some (k, i) => dCell x.1 k i

/-- Every cell's invariant, under the names `K`, and that it is at round 0. -/
def records (K : KI → ℕ) : sProp 𝕄 :=
  iprop((bigSep Finset.univ fun x : KI => cellInv ER (Rd m) (K x) (kcell x)) ∗ bigSep Finset.univ fun x : KI => reached ER (kcell x) 0)

instance records_persistent (K : KI → ℕ) : BI.Persistent (records m K) := by unfold records; infer_instance

theorem inv_at (K : KI → ℕ) (x : KI) : records m K ⊢ cellInv ER (Rd m) (K x) (kcell x) :=
  (show records m K ⊢ bigSep Finset.univ fun x : KI => cellInv ER (Rd m) (K x) (kcell x) from sep_elim_left).trans (fam_elim (Finset.mem_univ x))
theorem reached_at (K : KI → ℕ) (x : KI) : records m K ⊢ reached ER (kcell x) 0 :=
  (show records m K ⊢ bigSep Finset.univ fun x : KI => reached ER (kcell x) 0 from sep_elim_right).trans (fam_elim (Finset.mem_univ x))

/-! ## What a device owes -/

/-- The credit owed across `y` for the blocks from `a` on, -/
def oY (c : Dev nD) (a : ℕ) : CellTallies nD τ sig Unit := ∑ i ∈ Finset.univ.filter (fun i : Fin 32 => a ≤ i.val), tallyAt (dCell (yn c) 1 i) () N
/-- and across `z` for those from `b` on. -/
def oZ (c : Dev nD) (b : ℕ) : CellTallies nD τ sig Unit := ∑ i ∈ Finset.univ.filter (fun i : Fin 32 => b ≤ i.val), tallyAt (dCell (zn c) 3 i) () N
def owed (c : Dev nD) (a b : ℕ) : CellTallies nD τ sig Unit := oY c a + oZ c b
/-- At launch also a unit to each neighbour's barrier semaphore. -/
def O₁ (c : Dev nD) : CellTallies nD τ sig Unit := owed c 0 0 + tallyAt (barCell (zn c)) () 1
def O₀ (c : Dev nD) : CellTallies nD τ sig Unit := O₁ c + tallyAt (barCell (yn c)) () 1

theorem filter_peel (i : Fin 32) : Finset.univ.filter (fun j : Fin 32 => i.val ≤ j.val) = insert i (Finset.univ.filter (fun j : Fin 32 => i.val + 1 ≤ j.val)) := by
  ext j
  simp only [Finset.mem_filter, Finset.mem_univ, true_and, Finset.mem_insert, Fin.ext_iff]
  omega
theorem sum_peel (T : Fin 32 → CellTallies nD τ sig Unit) (i : Fin 32) :
    ∑ j ∈ Finset.univ.filter (fun j : Fin 32 => i.val ≤ j.val), T j = (∑ j ∈ Finset.univ.filter (fun j : Fin 32 => i.val + 1 ≤ j.val), T j) + T i := by
  rw [filter_peel, Finset.sum_insert (by simp), add_comm]

theorem owed_y (c : Dev nD) (i : Fin 32) (b : ℕ) : owed c i.val b = owed c (i.val + 1) b + tallyAt (dCell (yn c) 1 i) () N := by
  unfold owed oY; rw [sum_peel, add_right_comm]
theorem owed_z (c : Dev nD) (a : ℕ) (i : Fin 32) : owed c a i.val = owed c a (i.val + 1) + tallyAt (dCell (zn c) 3 i) () N := by
  unfold owed oZ; rw [sum_peel, add_assoc]
theorem owed_all (c : Dev nD) : owed c 32 32 = 0 := by
  have h : Finset.univ.filter (fun i : Fin 32 => 32 ≤ i.val) = ∅ := Finset.filter_eq_empty_iff.mpr fun i _ => Nat.not_le.mpr i.isLt
  unfold owed oY oZ; rw [h, Finset.sum_empty, Finset.sum_empty, add_zero]

theorem sum_pos {T : Fin 32 → CellTallies nD τ sig Unit} {s : Finset (Fin 32)} {g : GSem nD τ sig} {u : Unit} (h : 0 < (∑ j ∈ s, T j) g u) :
    ∃ j ∈ s, 0 < T j g u := by
  induction s using Finset.induction_on with
  | empty => exact absurd h (Nat.lt_irrefl 0)
  | insert a s ha ih =>
    rw [Finset.sum_insert ha, Pi.add_apply, Finsupp.add_apply] at h
    rcases Nat.eq_zero_or_pos (T a g u) with h0 | h0
    · rw [h0, Nat.zero_add] at h
      obtain ⟨j, hj, hp⟩ := ih h
      exact ⟨j, Finset.mem_insert_of_mem hj, hp⟩
    · exact ⟨a, Finset.mem_insert_self _ _, h0⟩

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

/-- What a device owes is a receive credit of a block not yet sent. -/
theorem owed_pos {c : Dev nD} {a b : ℕ} {g : GSem nD τ sig} {u : Unit} (h : 0 < owed c a b g u) :
    (∃ i : Fin 32, a ≤ i.val ∧ g = dCell (yn c) 1 i) ∨ ∃ i : Fin 32, b ≤ i.val ∧ g = dCell (zn c) 3 i := by
  unfold owed at h
  rw [Pi.add_apply, Finsupp.add_apply] at h
  rcases Nat.eq_zero_or_pos (oY c a g u) with h0 | h0
  · rw [h0, Nat.zero_add] at h
    obtain ⟨j, hj, hp⟩ := sum_pos h
    exact .inr ⟨j, (Finset.mem_filter.mp hj).2, tally_pos hp⟩
  · obtain ⟨j, hj, hp⟩ := sum_pos h0
    exact .inl ⟨j, (Finset.mem_filter.mp hj).2, tally_pos hp⟩

/-! ## The order of the waits -/

def L (g : GSem nD τ sig) : Finset Unit := if g.1.2 = .tc then {()} else ∅
/-- The barrier first; then block `i`'s receive across `y` before its receive across `z`, before block `i + 1`'s; the
    semaphores a device raises by its own copies lowest. -/
def lv (g : GSem nD τ sig) (_ : Unit) : ℕ := match g.2 with
  | .reg _ => 1
  | .dma q => if kOf q = 1 then 2 * (iOf q).val + 2 else if kOf q = 3 then 2 * (iOf q).val + 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_d (c : Dev nD) (k : Fin 4) (i : Fin 32) :
    lv (dCell c k i) () = if k.val = 1 then 2 * i.val + 2 else if k.val = 3 then 2 * i.val + 3 else 0 := by
  show (if kOf (ds k i) = 1 then 2 * (iOf (ds k i)).val + 2 else if kOf (ds k i) = 3 then 2 * (iOf (ds k i)).val + 3 else 0) = _
  rw [kOf_ds, iOf_ds]
theorem lv_ls (c : Dev nD) (s : Fin 2) : lv ((c : Thread nD τ), .dma (ls s)) () = 0 := by revert s c; decide
theorem lv_os (c : Dev nD) : lv ((c : Thread nD τ), .dma os) () = 0 := by revert c; decide

/-- A semaphore below everything owed may be waited for. -/
theorem mayWait (c : Dev nD) (sm : SemLoc sig) (a b : ℕ) (ha : lv ((c : Thread nD τ), sm) () < 2 * a + 2)
    (hb : lv ((c : Thread nD τ), sm) () < 2 * b + 3) :
    (levAts L lv : sProp 𝕄) ⊢ MayWait (c : Thread nD τ) sm () (owed c a b) :=
  MayOwe.of_cut (L := L) (lev := lv) (lv ((c : Thread nD τ), sm) ())
    (fun p hp => by rw [Finset.mem_singleton.mp hp, L_tc]; exact Finset.mem_singleton_self _)
    (fun g u hg => by rcases owed_pos hg with ⟨i, -, rfl⟩ | ⟨i, -, rfl⟩ <;> exact Finset.mem_singleton_self _)
    (fun p hp => by rw [Finset.mem_singleton.mp hp])
    (fun g u hg => by
      rcases owed_pos hg with ⟨i, hi, rfl⟩ | ⟨i, hi, rfl⟩
      · show lv _ () < lv (dCell (yn c) 1 i) ()
        rw [lv_d (yn c) 1 i]
        show _ < 2 * i.val + 2
        omega
      · show lv _ () < lv (dCell (zn c) 3 i) ()
        rw [lv_d (zn c) 3 i]
        show _ < 2 * i.val + 3
        omega)

end Cert.DwProof

end
-- ==== Proof.Local.lean ====
/-
The steps a device takes alone: the staged copies of its arguments, the loads and stores of its buffers, and the copies of
its result's tiles out.  Each step is stated once, for the offset it is printed at given as an equation.
-/
module

public import proofs.«01_k».proof.Proof.Sched

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The program `p` on device `c` runs safely and ends in `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it waited for before. -/
def OW (c : Dev nD) (O : CellTallies nD τ sig Unit) : sProp 𝕄 := iprop(∃ W, owes (c : Thread nD τ) O W)

variable {c : Dev nD} {α : Type} {Q : α → sProp (MT nD τ sig Unit (Elt F) ℕ UU ℕ)}

/-! ## Staged copies -/

/-- The share of the source a copy into half `s` of a staging buffer borrows: the two halves' copies overlap. -/
def sh (s : Fin 2) : PosShare TreeShare := if s = 0 then fullShare.left else fullShare.right

abbrev halfP (c : Dev nD) (b : Memref sig .tc .vmem S2x2048x256 .f32) (s : Fin 2) (g : Buf (Elt F) (b.view.loc (c : Thread nD τ))) : sProp 𝕄 :=
  (half b s).view.loc (c : Thread nD τ) ↦[(half b s).view.set]{fullShare} g

/-- Half `s` of the staging buffer `b` free, its semaphore at zero, and its share of the source. -/
def idle (c : Dev nD) (b : Memref sig .tc .vmem S2x2048x256 .f32) (s : Fin 2) (ℓ : Loc nD τ sig) (f : Buf (Elt F) ℓ) : sProp 𝕄 :=
  iprop((∃ g, halfP c b s g) ∗ semVal ((c : Thread nD τ), .dma (ls s)) 0 ∗ (ℓ ↦[Finset.univ]{sh s} f))
/-- The same, with half `s` holding the block `w`. -/
def got (c : Dev nD) (b : Memref sig .tc .vmem S2x2048x256 .f32) (s : Fin 2) (w : S2048x256.Idx → Elt F .f32) (ℓ : Loc nD τ sig) (f : Buf (Elt F) ℓ) : sProp 𝕄 :=
  iprop((∃ g, ⌜b.view.readAt (Elt F) (halfR s).toLoadRect g = lift1 w⌝ ∗ halfP c b s g) ∗ semVal ((c : Thread nD τ), .dma (ls s)) 0 ∗ (ℓ ↦[Finset.univ]{sh s} f))
/-- The copy of the block `w` into half `s` under way. -/
def busy (c : Dev nD) (b : Memref sig .tc .vmem S2x2048x256 .f32) (s : Fin 2) (w : S2048x256.Idx → Elt F .f32) (ℓ : Loc nD τ sig) (f : Buf (Elt F) ℓ) : sProp 𝕄 :=
  iprop(∃ S : Finset (Idx ℓ), Transfers.Flight EC (c : Thread nD τ) (.dma (ls s)) () (half b s).view.dmaCredit
      iprop((∃ g, ⌜b.view.readAt (Elt F) (halfR s).toLoadRect g = lift1 w⌝ ∗ halfP c b s g) ∗ (ℓ ↦[S]{sh s} f))
    ∗ (ℓ ↦[Finset.univ \ S]{sh s} f))

theorem got_idle {b : Memref sig .tc .vmem S2x2048x256 .f32} {s : Fin 2} {w : S2048x256.Idx → Elt F .f32} {ℓ : Loc nD τ sig} {f : Buf (Elt F) ℓ} :
    got c b s w ℓ f ⊢ idle c b s ℓ f := by
  unfold got idle
  iintro ⟨⟨%g, -, Hg⟩, Hr⟩
  isplitl [Hg]; · iexists g; iexact Hg
  iexact Hr

/-- Starting a copy. -/
theorem wp_start (b : Memref sig .tc .vmem S2x2048x256 .f32) (s : Fin 2) (w : S2048x256.Idx → Elt F .f32)
    (hload : ∀ g, b.view.readAt (Elt F) (halfR s).toLoadRect ((half b s).view.write (Elt F) g w Finset.univ) = lift1 w)
    {src : Memref sig .tc .hbm S2048x256 .f32} {f : Buf (Elt F) (src.view.loc (c : Thread nD τ))} (hsrc : src.view.read (Elt F) f = w)
    {dst : Memref sig .tc .vmem S2048x256 .f32} (hd : dst = half b s) {sem : DmaSem sig} (hs : sem = ls s)
    {h1 : src.view.WordExact} {h2 : dst.view.WordExact} {h3 : (DmaTarget.here (nD := nD) (τ := τ) (sig := sig) (p := Proc.tc) dst).Typed Space.hbm (SemLoc.dma sem)}
    {k : PUnit → Prog (TpuEff nD τ sig (Elt F) Λ₀ .tc) α} :
    idle c b s (src.view.loc (c : Thread nD τ)) f
      ⊢ iprop((busy c b s w (src.view.loc (c : Thread nD τ)) f -∗ Wp c (k ⟨⟩) Q) -∗ Wp c (.op (.enqueueDma src (.here dst) (.dma sem) h1 h2 h3) k) Q) := by
  subst hd hs
  unfold idle busy
  iintro ⟨⟨%g, Hg⟩, Hv, Hs⟩ Hk
  ihave Hs' := (pointsTo_split_subset (Finset.subset_univ src.view.set)).1 $$ Hs
  icases Hs' with ⟨Hs1, Hs2⟩
  iapply (Transfers.wp_dmaLocal EC 𝒱₀ (c : Thread nD τ) none () (half b s).view.dmaCredit rfl (View.dmaCredit_pos _ (by decide)) (Finset.Subset.refl _)) $$ [Hg Hv Hs1]
  · isplitl [Hs1]; · iexact Hs1
    isplitl [Hg] <;> iassumption
  iintro Hf
  iapply Hk
  iexists src.view.set
  isplitl [Hf]
  · iapply (Transfers.Flight_mono EC (c : Thread nD τ) ?_) $$ Hf
    iintro ⟨Hd, Hs⟩
    isplitl [Hd]
    · iexists _
      isplitr
      · ipureintro
        exact (congrArg (fun x => b.view.readAt (Elt F) (halfR s).toLoadRect ((half b s).view.write (Elt F) g x Finset.univ)) hsrc).trans (hload g)
      iexact Hd
    iexact Hs
  iexact Hs2

/-- Waiting for it. -/
theorem wp_await (b : Memref sig .tc .vmem S2x2048x256 .f32) (s : Fin 2) (w : S2048x256.Idx → Elt F .f32) {ℓ : Loc nD τ sig} {f : Buf (Elt F) ℓ} {x y : ℕ}
    {src : Memref sig .tc .hbm S2048x256 .f32} {dst : Memref sig .tc .vmem S2048x256 .f32} (hd : dst = half b s) {sem : DmaSem sig} (hs : sem = ls s)
    {h1 : src.view.WordExact} {h2 : dst.view.WordExact}
    {k : PUnit → Prog (TpuEff nD τ sig (Elt F) Λ₀ .tc) α} :
    iprop(levAts L lv ∗ busy c b s w ℓ f ∗ OW c (owed c x y))
      ⊢ iprop((iprop(got c b s w ℓ f ∗ OW c (owed c x y)) -∗ Wp c (k ⟨⟩) Q) -∗ Wp c (.op (.waitDma2 sem src dst h1 h2) k) Q) := by
  subst hd hs
  unfold busy got OW
  iintro ⟨#Hlev, ⟨%S, Hf, Hs2⟩, ⟨%W, HO⟩⟩ Hk
  iapply (Transfers.wp_waitLocalO EC 𝒱₀ (c : Thread nD τ) none () rfl) $$ [Hf HO]
  · isplitl [Hf]; · iexact Hf
    isplitl [HO]; · iexact HO
    iapply (mayWait c (.dma (ls s)) x y (by rw [lv_ls]; omega) (by rw [lv_ls]; omega)); iexact Hlev
  iintro ⟨⟨Hg, Hs1⟩, Hv, HO⟩
  iapply Hk
  isplitl [Hg Hs1 Hs2 Hv]
  · isplitl [Hg]; · iexact Hg
    isplitl [Hv]; · iexact Hv
    iapply (pointsTo_split_subset (Finset.subset_univ S)).2
    isplitl [Hs1] <;> iassumption
  iexists _; iexact HO

/-- Loading the half a copy landed in. -/
theorem wp_staged (b : Memref sig .tc .vmem S2x2048x256 .f32) (s : Fin 2) (w : S2048x256.Idx → Elt F .f32) {ℓ : Loc nD τ sig} {f : Buf (Elt F) ℓ}
    {off : Fin 3 → Nat} (ho : off = ![s.val, 0, 0]) {p : ∀ a, off a + S1x2048x256.size a ≤ S2x2048x256.size a}
    {hl : b.view.LoadsAt (Rect.unit (s := S2x2048x256) off S1x2048x256.size p).toLoadRect} {k : Vec F S1x2048x256 .f32 → Prog (TpuEff nD τ sig (Elt F) Λ₀ .tc) α} :
    got c b s w ℓ f
      ⊢ iprop((got c b s w ℓ f -∗ Wp c (k (lift1 w)) Q) -∗ Wp c (.op (.load b (Rect.unit (s := S2x2048x256) off S1x2048x256.size p).toLoadRect hl) k) Q) := by
  subst ho
  unfold got
  iintro ⟨⟨%g, %hg, Hg⟩, Hv, Hs⟩ Hk
  iapply (wp_load 𝒱₀ (c : Thread nD τ) none Set.univ (m := b) (hl := hl) (r := (halfR s).toLoadRect)
    (by rw [show (half b s).view.set = b.view.setOn (halfR s).set from (View.set_reshape _ _).trans (View.set_slice _ _)])) $$ Hg
  iintro Hg
  rw [hg]
  iapply Hk
  isplitl [Hg]
  · iexists g; isplitr; · (ipureintro; exact hg)
    iexact Hg
  isplitl [Hv] <;> iassumption

/-! ## The rounded columns of `x` -/

/-- The buffer of the rounded columns, its first `n` blocks in place. -/
def xaP (c : Dev nD) (n : ℕ) : sProp 𝕄 :=
  iprop(∃ f : S2048x1536.Idx → Elt F .bf16, ⌜ColsTo (C := 1536) (xaBlk m c) n f⌝ ∗ (xaM.view.loc (c : Thread nD τ) ↦[Finset.univ]{fullShare} f))

/-- Storing the next block. -/
theorem wp_xstore {n : ℕ} (hn : 256 * n + 256 ≤ 1536) {off : Fin 2 → Nat} (ho : off = ![0, 256 * n])
    {p : ∀ a, off a + S2048x256.size a ≤ S2048x1536.size a} {hl : xaM.view.LoadsAt (Rect.unit (s := S2048x1536) off S2048x256.size p).toLoadRect}
    {w : S2048x256.Idx → Elt F .bf16} (hw : w = xaBlk m c n)
    {hx : (xaM.access (Rect.unit (s := S2048x1536) off S2048x256.size p)).Stores Finset.univ} {hm}
    {k : PUnit → Prog (TpuEff nD τ sig (Elt F) Λ₀ .tc) α} :
    xaP m c n
      ⊢ iprop((xaP m c (n + 1) -∗ Wp c (k ⟨⟩) Q)
          -∗ Wp c (.op (.load xaM (Rect.unit (s := S2048x1536) off S2048x256.size p).toLoadRect hl) fun _ =>
              .op (.store xaM (Rect.unit (s := S2048x1536) off S2048x256.size p) w Finset.univ hx hm) k) Q) := by
  subst ho hw
  unfold xaP
  iintro ⟨%f, %hf, Hb⟩ Hk
  iapply (wp_load 𝒱₀ (c : Thread nD τ) none Set.univ (m := xaM) (hl := hl) (Finset.subset_univ _)) $$ Hb
  iintro Hb
  iapply (wp_store 𝒱₀ (c : Thread nD τ) none Set.univ (m := xaM) (r := colR 2048 1536 n hn) (hx := hx) (Mk := Finset.univ) (Finset.subset_univ _)) $$ Hb
  iintro Hb
  iapply Hk
  iexists _
  isplitr
  · ipureintro; exact xaM_step hf hn
  iexact Hb

/-- Loading all six. -/
theorem wp_xload {p : ∀ a, (![0, 0] : Fin 2 → Nat) a + S2048x1536.size a ≤ S2048x1536.size a}
    {hl : xaM.view.LoadsAt (Rect.unit (s := S2048x1536) ![0, 0] S2048x1536.size p).toLoadRect}
    {k : Vec F S2048x1536 .bf16 → Prog (TpuEff nD τ sig (Elt F) Λ₀ .tc) α} :
    xaP m c 6
      ⊢ iprop((xaP m c 6 -∗ Wp c (k (xaAll m c)) Q) -∗ Wp c (.op (.load xaM (Rect.unit (s := S2048x1536) ![0, 0] S2048x1536.size p).toLoadRect hl) k) Q) := by
  unfold xaP
  iintro ⟨%f, %hf, Hb⟩ Hk
  iapply (wp_load 𝒱₀ (c : Thread nD τ) none Set.univ (m := xaM) (hl := hl) (Finset.subset_univ _)) $$ Hb
  iintro Hb
  rw [xaM_load, show xaAll m c = f from (hf.all (by decide)).symm]
  iapply Hk
  iexists f
  isplitr
  · ipureintro; exact hf
  iexact Hb

/-! ## The products -/

/-- The buffer of the rows that stay, its first `n` blocks in place. -/
def dP (c : Dev nD) (n : ℕ) : sProp 𝕄 :=
  iprop(∃ f : S1024x8192.Idx → Elt F .bf16, ⌜ColsTo (C := 8192) (dBlk m c) n f⌝ ∗ (dM.view.loc (c : Thread nD τ) ↦[Finset.univ]{fullShare} f))

theorem wp_dstore {n : ℕ} (hn : 256 * n + 256 ≤ 8192) {off : Fin 2 → Nat} (ho : off = ![0, 256 * n])
    {p : ∀ a, off a + S1024x256.size a ≤ S1024x8192.size a} {hl : dM.view.LoadsAt (Rect.unit (s := S1024x8192) off S1024x256.size p).toLoadRect}
    {w : S1024x256.Idx → Elt F .bf16} (hw : w = dBlk m c n)
    {hx : (dM.access (Rect.unit (s := S1024x8192) off S1024x256.size p)).Stores Finset.univ} {hm}
    {k : PUnit → Prog (TpuEff nD τ sig (Elt F) Λ₀ .tc) α} :
    dP m c n
      ⊢ iprop((dP m c (n + 1) -∗ Wp c (k ⟨⟩) Q)
          -∗ Wp c (.op (.load dM (Rect.unit (s := S1024x8192) off S1024x256.size p).toLoadRect hl) fun _ =>
              .op (.store dM (Rect.unit (s := S1024x8192) off S1024x256.size p) w Finset.univ hx hm) k) Q) := by
  subst ho hw
  unfold dP
  iintro ⟨%f, %hf, Hb⟩ Hk
  iapply (wp_load 𝒱₀ (c : Thread nD τ) none Set.univ (m := dM) (hl := hl) (Finset.subset_univ _)) $$ Hb
  iintro Hb
  iapply (wp_store 𝒱₀ (c : Thread nD τ) none Set.univ (m := dM) (r := colR 1024 8192 n hn) (hx := hx) (Mk := Finset.univ) (Finset.subset_univ _)) $$ Hb
  iintro Hb
  iapply Hk
  iexists _
  isplitr
  · ipureintro; exact dM_step hf hn
  iexact Hb

/-- Storing a block of the rows to send. -/
theorem wp_estore {i : Fin 32} {off : Fin 3 → Nat} (ho : off = ![i.val, 0, 0])
    {p : ∀ a, off a + S1x512x256.size a ≤ S32x512x256.size a} {hl : eM.view.LoadsAt (Rect.unit (s := S32x512x256) off S1x512x256.size p).toLoadRect}
    {w : S1x512x256.Idx → Elt F .bf16} (hw : w = eBlk m c i.val)
    {hx : (eM.access (Rect.unit (s := S32x512x256) off S1x512x256.size p)).Stores Finset.univ} {hm}
    {k : PUnit → Prog (TpuEff nD τ sig (Elt F) Λ₀ .tc) α} :
    iprop(∃ f, eP c i f)
      ⊢ iprop((eP c i (eAll m c) -∗ Wp c (k ⟨⟩) Q)
          -∗ Wp c (.op (.load eM (Rect.unit (s := S32x512x256) off S1x512x256.size p).toLoadRect hl) fun _ =>
              .op (.store eM (Rect.unit (s := S32x512x256) off S1x512x256.size p) w Finset.univ hx hm) k) Q) := by
  subst ho hw
  unfold eP
  iintro ⟨%f, Hb⟩ Hk
  iapply (wp_load 𝒱₀ (c : Thread nD τ) none Set.univ (m := eM) (hl := hl) (r := (slotR i).toLoadRect) (S := (slot eM i).view.set)
    (by rw [show (slot eM i).view.set = eM.view.setOn (slotR i).set from (View.set_reshape _ _).trans (View.set_slice _ _)])) $$ Hb
  iintro Hb
  iapply (wp_store 𝒱₀ (c : Thread nD τ) none Set.univ (m := eM) (r := slotR i) (hx := hx) (Mk := Finset.univ) (S := (slot eM i).view.set)
    (by rw [View.setOn_univ, show (slot eM i).view.set = (eM.access (slotR i)).set from View.set_reshape _ _])) $$ Hb
  iintro Hb
  iapply Hk
  ihave Hb' := (Entails.of_eq (pointsTo_congr (e_store f (eBlk m c) i))) $$ Hb
  iexact Hb'

/-! ## The result's tiles -/

/-- The result's first `n` tiles out, the output semaphore at zero and the tile's staging buffer free; -/
def outI (c : Dev nD) (n : ℕ) : sProp 𝕄 :=
  iprop((∃ f : S1024x8192.Idx → Elt F .bf16, ⌜ColsTo (C := 8192) (outBlk m c) n f⌝ ∗ (outM.view.loc (c : Thread nD τ) ↦[Finset.univ]{fullShare} f))
    ∗ (∃ g, osM.view.loc (c : Thread nD τ) ↦[Finset.univ]{fullShare} g) ∗ semVal ((c : Thread nD τ), .dma os) 0)
/-- its first `n` tiles out once the copy under way has landed. -/
def outB (c : Dev nD) (n : ℕ) : sProp 𝕄 :=
  Transfers.Flight EC (c : Thread nD τ) (.dma os) () (outM.slice (colR 1024 8192 0 (by decide)) (fun _ => rfl)).view.dmaCredit
    iprop((∃ f : S1024x8192.Idx → Elt F .bf16, ⌜ColsTo (C := 8192) (outBlk m c) n f⌝ ∗ (outM.view.loc (c : Thread nD τ) ↦[Finset.univ]{fullShare} f))
      ∗ (∃ g, osM.view.loc (c : Thread nD τ) ↦[Finset.univ]{fullShare} g))

/-- Waiting for the copy of a tile. -/
theorem wp_outwait {n x y : ℕ} {off : Fin 2 → Nat} {p : ∀ a, off a + S1024x256.size a ≤ S1024x8192.size a}
    {src : Memref sig .tc .vmem S1024x256 .bf16} {sem : DmaSem sig} (hs : sem = os)
    {h1 : src.view.WordExact} {h2 : (outM.slice (Rect.unit (s := S1024x8192) off S1024x256.size p) (fun _ => rfl)).view.WordExact}
    {k : PUnit → Prog (TpuEff nD τ sig (Elt F) Λ₀ .tc) α} :
    iprop(levAts L lv ∗ outB m c n ∗ OW c (owed c x y))
      ⊢ iprop((iprop(outI m c n ∗ OW c (owed c x y)) -∗ Wp c (k ⟨⟩) Q)
          -∗ Wp c (.op (.waitDma2 sem src (outM.slice (Rect.unit (s := S1024x8192) off S1024x256.size p) (fun _ => rfl)) h1 h2) k) Q) := by
  subst hs
  unfold outB outI OW
  iintro ⟨#Hlev, Hf, ⟨%W, HO⟩⟩ Hk
  iapply (Transfers.wp_waitLocalO EC 𝒱₀ (c : Thread nD τ) none () rfl) $$ [Hf HO]
  · isplitl [Hf]; · iexact Hf
    isplitl [HO]; · iexact HO
    iapply (mayWait c (.dma os) x y (by rw [lv_os]; omega) (by rw [lv_os]; omega)); iexact Hlev
  iintro ⟨⟨Ho, Hs⟩, Hv, HO⟩
  iapply Hk
  isplitl [Ho Hs Hv]
  · isplitl [Ho]; · iexact Ho
    isplitl [Hs] <;> iassumption
  iexists _; iexact HO

theorem hz2' : (![0, 0] : Fin 2 → Nat) = fun _ => 0 := funext fun a => by fin_cases a <;> rfl

/-- Emitting tile `i`: the loads of the device's own rows and of the two received blocks, the stores of the tile's halves,
    and the start of the tile's copy out. -/
theorem wp_emit {i : Fin 32} {n : ℕ} (hn : i.val < n) {q : PosShare TreeShare}
    {od : Fin 2 → Nat} (hod : od = ![0, 256 * i.val]) {pd : ∀ a, od a + S1024x256.size a ≤ S1024x8192.size a}
    {oa : Fin 3 → Nat} (hoa : oa = ![i.val, 0, 0]) {pa : ∀ a, oa a + S1x512x256.size a ≤ S32x512x256.size a}
    {ob : Fin 3 → Nat} (hob : ob = ![i.val, 0, 0]) {pb : ∀ a, ob a + S1x512x256.size a ≤ S32x512x256.size a}
    {oo : Fin 2 → Nat} (hoo : oo = ![0, 256 * i.val]) {po : ∀ a, oo a + S1024x256.size a ≤ S1024x8192.size a}
    {pt : ∀ a, (![0, 0] : Fin 2 → Nat) a + S512x256.size a ≤ S1024x256.size a} {pu : ∀ a, (![512, 0] : Fin 2 → Nat) a + S512x256.size a ≤ S1024x256.size a}
    {sem : DmaSem sig} (hs : sem = os)
    {l1 : dM.view.LoadsAt (Rect.unit (s := S1024x8192) od S1024x256.size pd).toLoadRect}
    {l2 : r1M.view.LoadsAt (Rect.unit (s := S32x512x256) oa S1x512x256.size pa).toLoadRect}
    {l3 : r2M.view.LoadsAt (Rect.unit (s := S32x512x256) ob S1x512x256.size pb).toLoadRect}
    {l4 : osM.view.LoadsAt (Rect.unit (s := S1024x256) ![0, 0] S512x256.size pt).toLoadRect}
    {l5 : osM.view.LoadsAt (Rect.unit (s := S1024x256) ![512, 0] S512x256.size pu).toLoadRect}
    {P R : Vec F S1024x256 .bf16 → Vec F S1x512x256 .bf16 → Vec F S1x512x256 .bf16 → Vec F S512x256 .bf16}
    (hP : P = tileT c) (hR : R = tileB c)
    {x1 : (osM.access (Rect.unit (s := S1024x256) ![0, 0] S512x256.size pt)).Stores Finset.univ} {y1}
    {x2 : (osM.access (Rect.unit (s := S1024x256) ![512, 0] S512x256.size pu)).Stores Finset.univ} {y2}
    {h1 : osM.view.WordExact} {h2 : (outM.slice (Rect.unit (s := S1024x8192) oo S1024x256.size po) (fun _ => rfl)).view.WordExact}
    {h3 : (DmaTarget.here (nD := nD) (τ := τ) (sig := sig) (p := Proc.tc) (outM.slice (Rect.unit (s := S1024x8192) oo S1024x256.size po) (fun _ => rfl))).Typed Space.vmem (SemLoc.dma sem)}
    {k : PUnit → Prog (TpuEff nD τ sig (Elt F) Λ₀ .tc) α} :
    iprop(dP m c n ∗ r1P c i q (eAll m (yn c)) ∗ r2P c i (eAll m (yn (zn c))) ∗ outI m c i.val)
      ⊢ iprop((iprop(dP m c n ∗ r1P c i q (eAll m (yn c)) ∗ r2P c i (eAll m (yn (zn c))) ∗ outB m c (i.val + 1)) -∗ Wp c (k ⟨⟩) Q)
          -∗ Wp c (.op (.load dM (Rect.unit (s := S1024x8192) od S1024x256.size pd).toLoadRect l1) fun vd =>
              .op (.load r1M (Rect.unit (s := S32x512x256) oa S1x512x256.size pa).toLoadRect l2) fun va =>
              .op (.load r2M (Rect.unit (s := S32x512x256) ob S1x512x256.size pb).toLoadRect l3) fun vb =>
              .op (.load osM (Rect.unit (s := S1024x256) ![0, 0] S512x256.size pt).toLoadRect l4) fun _ =>
              .op (.store osM (Rect.unit (s := S1024x256) ![0, 0] S512x256.size pt) (P vd va vb) Finset.univ x1 y1) fun _ =>
              .op (.load osM (Rect.unit (s := S1024x256) ![512, 0] S512x256.size pu).toLoadRect l5) fun _ =>
              .op (.store osM (Rect.unit (s := S1024x256) ![512, 0] S512x256.size pu) (R vd va vb) Finset.univ x2 y2) fun _ =>
              .op (.enqueueDma osM (.here (outM.slice (Rect.unit (s := S1024x8192) oo S1024x256.size po) (fun _ => rfl))) (.dma sem) h1 h2 h3) k) Q) := by
  have hi : 256 * i.val + 256 ≤ 8192 := by have := i.isLt; omega
  subst hod hoa hob hoo hs hP hR
  unfold dP outI outB r1P r2P
  iintro ⟨⟨%fd, %hfd, Hd⟩, H1, H2, ⟨%fo, %hfo, Ho⟩, ⟨%g, Hs⟩, Hv⟩ Hk
  iapply (wp_load 𝒱₀ (c : Thread nD τ) none Set.univ (m := dM) (hl := l1) (Finset.subset_univ _)) $$ Hd
  iintro Hd
  rw [show dM.view.readAt (Elt F) (Rect.unit (s := S1024x8192) ![0, 256 * i.val] S1024x256.size pd).toLoadRect fd = dBlk m c i.val from dM_load hfd hn hi]
  iapply (wp_load 𝒱₀ (c : Thread nD τ) none Set.univ (m := r1M) (hl := l2) (r := (slotR i).toLoadRect) (S := (slot r1M i).view.set)
    (by rw [show (slot r1M i).view.set = r1M.view.setOn (slotR i).set from (View.set_reshape _ _).trans (View.set_slice _ _)])) $$ H1
  iintro H1
  rw [show r1M.view.readAt (Elt F) (slotR i).toLoadRect (eAll m (yn c)) = eBlk m (yn c) i.val from r1_load (eBlk m (yn c)) i]
  iapply (wp_load 𝒱₀ (c : Thread nD τ) none Set.univ (m := r2M) (hl := l3) (r := (slotR i).toLoadRect) (S := (slot r2M i).view.set)
    (by rw [show (slot r2M i).view.set = r2M.view.setOn (slotR i).set from (View.set_reshape _ _).trans (View.set_slice _ _)])) $$ H2
  iintro H2
  rw [show r2M.view.readAt (Elt F) (slotR i).toLoadRect (eAll m (yn (zn c))) = eBlk m (yn (zn c)) i.val from r2_load (eBlk m (yn (zn c))) i]
  iapply (wp_load 𝒱₀ (c : Thread nD τ) none Set.univ (m := osM) (hl := l4) (Finset.subset_univ _)) $$ Hs
  iintro Hs
  iapply (wp_store 𝒱₀ (c : Thread nD τ) none Set.univ (m := osM) (hx := x1) (Finset.subset_univ _)) $$ Hs
  iintro Hs
  iapply (wp_load 𝒱₀ (c : Thread nD τ) none Set.univ (m := osM) (hl := l5) (Finset.subset_univ _)) $$ Hs
  iintro Hs
  iapply (wp_store 𝒱₀ (c : Thread nD τ) none Set.univ (m := osM) (hx := x2) (Finset.subset_univ _)) $$ Hs
  iintro Hs
  rw [os_stores, show stack (tileT c (dBlk m c i.val) (eBlk m (yn c) i.val) (eBlk m (yn (zn c)) i.val))
    (tileB c (dBlk m c i.val) (eBlk m (yn c) i.val) (eBlk m (yn (zn c)) i.val)) = outBlk m c i.val from rfl]
  iapply (Transfers.wp_dmaLocal EC 𝒱₀ (c : Thread nD τ) none (src := osM) (dst := outM.slice (colR 1024 8192 i.val hi) (fun _ => rfl)) (Sd := Finset.univ) ()
    (outM.slice (colR 1024 8192 0 (by decide)) (fun _ => rfl)).view.dmaCredit rfl (View.dmaCredit_pos _ (by decide)) (Finset.subset_univ _)) $$ [Ho Hs Hv]
  · isplitl [Hs]; · rw [show osM.view.set = Finset.univ from View.set_whole _]; iexact Hs
    isplitl [Ho] <;> iassumption
  iintro Hf
  iapply Hk
  isplitl [Hd]
  · iexists fd; isplitr; · (ipureintro; exact hfd)
    iexact Hd
  isplitl [H1]; · iexact H1
  isplitl [H2]; · iexact H2
  iapply (Transfers.Flight_mono EC (c : Thread nD τ) ?_) $$ Hf
  iintro ⟨Ho, Hs⟩
  isplitl [Ho]
  · iexists _
    isplitr; · (ipureintro; exact outM_step hfo hi)
    iexact Ho
  iexists _
  rw [show osM.view.set = Finset.univ from View.set_whole _]
  iexact Hs

end Cert.DwProof

end
-- ==== Proof.Exchange.lean ====
/-
The steps of the exchange: the signals and the wait of the barrier, a block sent across `y`, its receipt passed on across
`z`, and the waits for arrivals and departures.
-/
module

public import proofs.«01_k».proof.Proof.Local

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable {c : Dev nD} {α : Type} {Q : α → sProp (MT nD τ sig Unit (Elt F) ℕ UU ℕ)} (K : KI → ℕ)

/-! ## What a device holds of block `i`, before and after each step -/

/-- To send block `i` across `y`: the slot to fill, both ends' duties, and the neighbour's slot; -/
def yA (c : Dev nD) (i : Fin 32) : sProp 𝕄 :=
  iprop((∃ f, eP c i f) ∗ dutyTok ER (dCell c 0 i) 0 false ∗ dutyTok ER (dCell (yn c) 1 i) 0 false ∗ ∃ f, r1P (yn c) i fullShare f)
/-- sent, the credit of its departure. -/
def yA' (c : Dev nD) (i : Fin 32) : sProp 𝕄 := cred (tallyAt (dCell c 0 i) () N)

/-- To receive block `i` across `y` and send it across `z`; -/
def zB (c : Dev nD) (i : Fin 32) : sProp 𝕄 :=
  iprop(atPos ER (dCell c 1 i) 0 ∅ 0 ∗ cred (tallyAt (dCell c 1 i) () N) ∗ dutyTok ER (dCell c 2 i) 0 false ∗ dutyTok ER (dCell (zn c) 3 i) 0 false
    ∗ ∃ f, r2P (zn c) i f)
/-- sent, the credit of its departure and the half of the received block that was not lent to it. -/
def zB' (c : Dev nD) (i : Fin 32) : sProp 𝕄 :=
  iprop(cred (tallyAt (dCell c 2 i) () N) ∗ r1P c i fullShare.right (eAll m (yn c)) ∗ semVal (dCell c 1 i) 0)

/-- To receive block `i` across `z`; -/
def rC (c : Dev nD) (i : Fin 32) : sProp 𝕄 := iprop(atPos ER (dCell c 3 i) 0 ∅ 0 ∗ cred (tallyAt (dCell c 3 i) () N))
/-- received. -/
def rC' (c : Dev nD) (i : Fin 32) : sProp 𝕄 := iprop(r2P c i (eAll m (yn (zn c))) ∗ semVal (dCell c 3 i) 0)

/-- To wait for both departures; -/
def gD (c : Dev nD) (i : Fin 32) : sProp 𝕄 := iprop(atPos ER (dCell c 0 i) 0 ∅ 0 ∗ atPos ER (dCell c 2 i) 0 ∅ 0)
/-- waited for, what was lent is back. -/
def gD' (c : Dev nD) (i : Fin 32) : sProp 𝕄 :=
  iprop(eP c i (eAll m c) ∗ semVal (dCell c 0 i) 0 ∗ r1P c i fullShare.left (eAll m (yn c)) ∗ semVal (dCell c 2 i) 0)

/-! ## The barrier -/

/-- The signals to both neighbours, each handing over the device's own slots to receive in, and the wait for theirs. -/
theorem wp_barrier {n₁ n₂ : Dev nD} (h₁ : n₁ = yn c) (h₂ : n₂ = zn c) {a₁ a₂ b : ℤ} (e₁ : a₁ = ((1 : ℕ) : ℤ)) (e₂ : a₂ = ((1 : ℕ) : ℤ)) (e₃ : b = ((2 : ℕ) : ℤ))
    {k : PUnit → Prog (TpuEff nD τ sig (Elt F) Λ₀ .tc) α} :
    iprop(records m K ∗ levAts L lv ∗ dutyTok ER (barCell (yn c)) 0 false ∗ dutyTok ER (barCell (zn c)) 0 true
        ∗ (bigSep Finset.univ fun i : Fin 32 => iprop(∃ f, r1P c i fullShare f)) ∗ (bigSep Finset.univ fun i : Fin 32 => iprop(∃ f, r2P c i f))
        ∗ cred (tallyAt (barCell c) () 2) ∗ atPos ER (barCell c) 0 ∅ 0 ∗ OW c (O₀ c))
      ⊢ iprop((iprop(barY c ∗ barZ c ∗ semVal (barCell c) 0 ∗ OW c (owed c 0 0)) -∗ Wp c (k ⟨⟩) Q)
          -∗ Wp c (.op (.semSignal (Dev.tc n₁ : Thread nD τ) barS a₁) fun _ => .op (.semSignal (Dev.tc n₂ : Thread nD τ) barS a₂) fun _ =>
              .op (.semWait barS b) k) Q) := by
  subst h₁ h₂ e₁ e₂ e₃
  unfold OW
  iintro ⟨#HR, #Hlev, Ht1, Ht2, H1, H2, Hc, Hat, ⟨%W, HO⟩⟩ Hk
  unfold O₀
  iapply (Rounds.wp_signal 𝒱₀ ER (Rd m) (c : Thread nD τ) none (dst := (yn c : Thread nD τ)) (κ := K (yn c, none))
      (d := false) (by rw [duties_bar]; exact Finset.mem_univ _) (amount_bar m (yn c) false) () (O₁ c) rfl) $$ [HO Ht1 H1]
  · isplitr; · (iapply (inv_at m K (yn c, none)); iexact HR)
    isplitl [HO]; · iexact HO
    isplitl [Ht1]; · iexact Ht1
    isplitl [H1]
    · rw [payload_false]; unfold barY; rw [yn_yn]; iexact H1
    iapply (reached_at m K (yn c, none)); iexact HR
  iintro HO
  unfold O₁
  iapply (Rounds.wp_signal 𝒱₀ ER (Rd m) (c : Thread nD τ) none (dst := (zn c : Thread nD τ)) (κ := K (zn c, none))
      (d := true) (by rw [duties_bar]; exact Finset.mem_univ _) (amount_bar m (zn c) true) () (owed c 0 0) rfl) $$ [HO Ht2 H2]
  · isplitr; · (iapply (inv_at m K (zn c, none)); iexact HR)
    isplitl [HO]; · iexact HO
    isplitl [Ht2]; · iexact Ht2
    isplitl [H2]
    · rw [payload_true]; unfold barZ; rw [zn_zn]; iexact H2
    iapply (reached_at m K (zn c, none)); iexact HR
  iintro HO
  iapply (Rounds.wp_wait_rest_token 𝒱₀ ER (Rd m) (c : Thread nD τ) none (κ := K (c, none))
      (wpE_semWait_eq 𝒱₀ (c : Thread nD τ) none Set.univ) (Set.mem_univ _) () (O := owed c 0 0) (W := W) (R := 0) (m := 0) (T := ∅)
      (by rw [Nat.zero_add, expect_bar])) $$ [Hc HO Hat]
  · isplitr; · (iapply (inv_at m K (c, none)); iexact HR)
    isplitl [Hc]; · iexact Hc
    isplitl [HO]; · iexact HO
    isplitr
    · iapply (mayWait c (.reg barS) 0 0 (by rw [lv_bar]; decide) (by rw [lv_bar]; decide)); iexact Hlev
    iexact Hat
  iintro ⟨HO, Hat, -, Hpay⟩
  ihave Hp := (Entails.of_eq (rest_bar m c)) $$ Hpay
  icases Hp with ⟨HY, HZ⟩
  imod (Rounds.cell_close ER (Rd m) (Set.mem_univ (K (c, none))) (fun h => h) (R := 0 + 1) (duties_later m (barCell c))) $$ [Hat] with Hv
  · isplitr; · (iapply (inv_at m K (c, none)); iexact HR)
    iexact Hat
  iapply Hk
  isplitl [HY]; · iexact HY
  isplitl [HZ]; · iexact HZ
  isplitl [Hv]; · iexact Hv
  iexists _; iexact HO

/-! ## The waits -/

/-- Waiting for the credit of one of block `i`'s semaphores: what it hands over, and the semaphore at zero for good. -/
theorem wp_dwait (k : Fin 4) (i : Fin 32) {a b : ℕ} (ha : lv (dCell c k i) () < 2 * a + 2) (hb : lv (dCell c k i) () < 2 * b + 3)
    {sem : DmaSem sig} (hs : sem = ds k i) {src dst : Memref sig .tc .vmem S512x256 .bf16} (hN : dst.view.dmaCredit = N)
    {h1 : src.view.WordExact} {h2 : dst.view.WordExact} {kk : PUnit → Prog (TpuEff nD τ sig (Elt F) Λ₀ .tc) α} :
    iprop(records m K ∗ levAts L lv ∗ atPos ER (dCell c k i) 0 ∅ 0 ∗ cred (tallyAt (dCell c k i) () N) ∗ OW c (owed c a b))
      ⊢ iprop((iprop(dPay m c k.val i ∗ semVal (dCell c k i) 0 ∗ OW c (owed c a b)) -∗ Wp c (kk ⟨⟩) Q)
          -∗ Wp c (.op (.waitDma2 sem src dst h1 h2) kk) Q) := by
  subst hs
  unfold OW
  iintro ⟨#HR, #Hlev, Hat, Hc, ⟨%W, HO⟩⟩ Hk
  iapply (Rounds.wp_wait_rest_token 𝒱₀ ER (Rd m) (c : Thread nD τ) none (κ := K (c, some (k, i)))
      (wpE_waitDma2_eq 𝒱₀ (c : Thread nD τ) none Set.univ) (Set.mem_univ _) () (O := owed c a b) (W := W) (R := 0) (m := 0) (T := ∅)
      (by rw [Nat.zero_add, hN]; exact (expect_d m c k i).symm)) $$ [Hc HO Hat]
  · isplitr; · (iapply (inv_at m K (c, some (k, i))); iexact HR)
    isplitl [Hc]; · (rw [hN]; iexact Hc)
    isplitl [HO]; · iexact HO
    isplitr
    · iapply (mayWait c (.dma (ds k i)) a b ha hb); iexact Hlev
    iexact Hat
  iintro ⟨HO, Hat, -, Hpay⟩
  ihave Hp := (Entails.of_eq (rest_d m c k i)) $$ Hpay
  imod (Rounds.cell_close ER (Rd m) (Set.mem_univ (K (c, some (k, i)))) (fun h => h) (R := 0 + 1) (duties_later m (dCell c k i))) $$ [Hat] with Hv
  · isplitr; · (iapply (inv_at m K (c, some (k, i))); iexact HR)
    iexact Hat
  iapply Hk
  isplitl [Hp]; · iexact Hp
  isplitl [Hv]; · iexact Hv
  iexists _; iexact HO

/-! ## The sends -/

/-- What each semaphore of block `i` hands over, seen from the sender. -/
theorem pay_0 (c : Dev nD) (i : Fin 32) : (Rd (F := F) m).payload (dCell c 0 i) 0 false = eP c i (eAll m c) :=
  (payload_d m c 0 i false).trans rfl
theorem pay_1 (c : Dev nD) (i : Fin 32) : (Rd (F := F) m).payload (dCell (yn c) 1 i) 0 false = r1P (yn c) i fullShare (eAll m c) :=
  (payload_d m (yn c) 1 i false).trans (show r1P (yn c) i fullShare (eAll m (yn (yn c))) = _ by rw [yn_yn])
theorem pay_2 (c : Dev nD) (i : Fin 32) : (Rd (F := F) m).payload (dCell c 2 i) 0 false = r1P c i fullShare.left (eAll m (yn c)) :=
  (payload_d m c 2 i false).trans rfl
theorem pay_3 (c : Dev nD) (i : Fin 32) : (Rd (F := F) m).payload (dCell (zn c) 3 i) 0 false = r2P (zn c) i (eAll m (yn c)) :=
  (payload_d m (zn c) 3 i false).trans (show r2P (zn c) i (eAll m (yn (zn (zn c)))) = _ by rw [zn_zn])

/-- Sending block `i` across `y`. -/
theorem wp_ysend (i : Fin 32) (b : ℕ) {n : Dev nD} (hn : n = yn c) {src dst : Memref sig .tc .vmem S512x256 .bf16} (hsrc : src = slot eM i) (hdst : dst = slot r1M i)
    {sS sR : DmaSem sig} (hS : sS = ds 0 i) (hR : sR = ds 1 i) {hsc : dst.view.ref.isScScratch = false}
    {h1 : src.view.WordExact} {h2 : dst.view.WordExact} {h3 : DmaTarget.Typed .vmem (.dma sR) (.remote (Dev.tc n : Thread nD τ) dst (.dma sS) hsc)}
    {k : PUnit → Prog (TpuEff nD τ sig (Elt F) Λ₀ .tc) α} :
    iprop(records m K ∗ eP c i (eAll m c) ∗ dutyTok ER (dCell c 0 i) 0 false ∗ dutyTok ER (dCell (yn c) 1 i) 0 false
        ∗ (∃ f, r1P (yn c) i fullShare f) ∗ OW c (owed c i.val b))
      ⊢ iprop((iprop(yA' c i ∗ OW c (owed c (i.val + 1) b)) -∗ Wp c (k ⟨⟩) Q)
          -∗ Wp c (.op (.enqueueDma src (.remote (Dev.tc n : Thread nD τ) dst (.dma sS) hsc) (.dma sR) h1 h2 h3) k) Q) := by
  subst hn hsrc hdst hS hR
  unfold OW yA' eP r1P
  iintro ⟨#HR, He, Ht0, Ht1, ⟨%fd, H1⟩, ⟨%W, HO⟩⟩ Hk
  iapply (Rounds.wp_send_pointsTo 𝒱₀ ER (Rd m) (c : Thread nD τ) none (c' := (yn c : Thread nD τ)) (src := slot eM i) (dst := slot r1M i) (κ₁ := K (c, some (0, i))) (κ₂ := K (yn c, some (1, i)))
    (r₁ := 0) (r₂ := 0) (d₁ := false) (d₂ := false) (fd := fd)
    (by rw [duties_d m c 0 i]; exact Finset.mem_singleton_self _) (by rw [duties_d m (yn c) 1 i]; exact Finset.mem_singleton_self _)
    () () N rfl (amount_d m c 0 i false) (amount_d m (yn c) 1 i false) (owed c (i.val + 1) b) (owed_y c i b) (W := W)
    (Entails.of_eq (pay_0 m c i).symm)
    ((Entails.of_eq (pointsTo_congr (r1_copy (i := i) (yn c) fd (eAll m c)))).trans (Entails.of_eq (pay_1 m c i).symm))) $$ [He Ht0 Ht1 H1 HO]
  · isplitr; · (iapply (inv_at m K (c, some (0, i))); iexact HR)
    isplitr; · (iapply (inv_at m K (yn c, some (1, i))); iexact HR)
    isplitl [He]; · iexact He
    isplitl [H1]; · iexact H1
    isplitl [HO]; · iexact HO
    isplitl [Ht0]; · iexact Ht0
    isplitr; · (iapply (reached_at m K (c, some (0, i))); iexact HR)
    isplitl [Ht1]; · iexact Ht1
    iapply (reached_at m K (yn c, some (1, i))); iexact HR
  iintro ⟨Hc, HO⟩
  iapply Hk
  isplitl [Hc]; · iexact Hc
  iexists W; iexact HO

/-- Sending on across `z` the block `i` received across `y`, half of which stays to be read. -/
theorem wp_zsend (i : Fin 32) (a : ℕ) {n : Dev nD} (hn : n = zn c) {src dst : Memref sig .tc .vmem S512x256 .bf16} (hsrc : src = slot r1M i) (hdst : dst = slot r2M i)
    {sS sR : DmaSem sig} (hS : sS = ds 2 i) (hR : sR = ds 3 i) {hsc : dst.view.ref.isScScratch = false}
    {h1 : src.view.WordExact} {h2 : dst.view.WordExact} {h3 : DmaTarget.Typed .vmem (.dma sR) (.remote (Dev.tc n : Thread nD τ) dst (.dma sS) hsc)}
    {k : PUnit → Prog (TpuEff nD τ sig (Elt F) Λ₀ .tc) α} :
    iprop(records m K ∗ r1P c i fullShare (eAll m (yn c)) ∗ dutyTok ER (dCell c 2 i) 0 false ∗ dutyTok ER (dCell (zn c) 3 i) 0 false
        ∗ (∃ f, r2P (zn c) i f) ∗ OW c (owed c a i.val))
      ⊢ iprop((iprop(cred (tallyAt (dCell c 2 i) () N) ∗ r1P c i fullShare.right (eAll m (yn c)) ∗ OW c (owed c a (i.val + 1))) -∗ Wp c (k ⟨⟩) Q)
          -∗ Wp c (.op (.enqueueDma src (.remote (Dev.tc n : Thread nD τ) dst (.dma sS) hsc) (.dma sR) h1 h2 h3) k) Q) := by
  subst hn hsrc hdst hS hR
  unfold OW r1P r2P
  iintro ⟨#HR, He, Ht0, Ht1, ⟨%fd, H1⟩, ⟨%W, HO⟩⟩ Hk
  ihave He' := (pointsTo_share (PosShare.mem_left_op_right fullShare)).1 $$ He
  icases He' with ⟨HeL, HeR⟩
  iapply (Rounds.wp_send_pointsTo 𝒱₀ ER (Rd m) (c : Thread nD τ) none (c' := (zn c : Thread nD τ)) (src := slot r1M i) (dst := slot r2M i) (κ₁ := K (c, some (2, i))) (κ₂ := K (zn c, some (3, i)))
    (r₁ := 0) (r₂ := 0) (d₁ := false) (d₂ := false) (fd := fd)
    (by rw [duties_d m c 2 i]; exact Finset.mem_singleton_self _) (by rw [duties_d m (zn c) 3 i]; exact Finset.mem_singleton_self _)
    () () N rfl (amount_d m c 2 i false) (amount_d m (zn c) 3 i false) (owed c a (i.val + 1)) (owed_z c a i) (W := W)
    (Entails.of_eq (pay_2 m c i).symm)
    ((Entails.of_eq (pointsTo_congr (r2_copy (i := i) (zn c) fd (eAll m (yn c))))).trans (Entails.of_eq (pay_3 m c i).symm))) $$ [HeL Ht0 Ht1 H1 HO]
  · isplitr; · (iapply (inv_at m K (c, some (2, i))); iexact HR)
    isplitr; · (iapply (inv_at m K (zn c, some (3, i))); iexact HR)
    isplitl [HeL]; · iexact HeL
    isplitl [H1]; · iexact H1
    isplitl [HO]; · iexact HO
    isplitl [Ht0]; · iexact Ht0
    isplitr; · (iapply (reached_at m K (c, some (2, i))); iexact HR)
    isplitl [Ht1]; · iexact Ht1
    iapply (reached_at m K (zn c, some (3, i))); iexact HR
  iintro ⟨Hc, HO⟩
  iapply Hk
  isplitl [Hc]; · iexact Hc
  isplitl [HeR]; · iexact HeR
  iexists W; iexact HO

/-- Receiving block `i` across `y` and sending it on across `z`. -/
theorem wp_pass (i : Fin 32) {a b : ℕ} (ha : i.val < a) (hb : b = i.val) {sem : DmaSem sig} (hs : sem = ds 1 i) {s₀ d₀ : Memref sig .tc .vmem S512x256 .bf16} (hd₀ : d₀ = slot r1M i)
    {g1 : s₀.view.WordExact} {g2 : d₀.view.WordExact}
    {n : Dev nD} (hn : n = zn c) {src dst : Memref sig .tc .vmem S512x256 .bf16} (hsrc : src = slot r1M i) (hdst : dst = slot r2M i)
    {sS sR : DmaSem sig} (hS : sS = ds 2 i) (hR : sR = ds 3 i) {hsc : dst.view.ref.isScScratch = false}
    {h1 : src.view.WordExact} {h2 : dst.view.WordExact} {h3 : DmaTarget.Typed .vmem (.dma sR) (.remote (Dev.tc n : Thread nD τ) dst (.dma sS) hsc)}
    {k : PUnit → Prog (TpuEff nD τ sig (Elt F) Λ₀ .tc) α} :
    iprop(records m K ∗ levAts L lv ∗ Fam (zB c) (zB' m c) b ∗ OW c (owed c a b))
      ⊢ iprop((iprop(Fam (zB c) (zB' m c) (b + 1) ∗ OW c (owed c a (b + 1))) -∗ Wp c (k ⟨⟩) Q)
          -∗ Wp c (.op (.waitDma2 sem s₀ d₀ g1 g2) fun _ =>
              .op (.enqueueDma src (.remote (Dev.tc n : Thread nD τ) dst (.dma sS) hsc) (.dma sR) h1 h2 h3) k) Q) := by
  subst hb
  iintro ⟨#HR, #Hlev, HB, HO⟩ Hk
  ihave HB' := (Fam_step i) $$ HB
  icases HB' with ⟨Hb, HB⟩
  unfold zB
  icases Hb with ⟨Hat, Hc, Ht0, Ht1, H2⟩
  iapply (wp_dwait m K 1 i (a := a) (b := i.val) (by rw [lv_d c 1 i]; show 2 * i.val + 2 < _; omega) (by rw [lv_d c 1 i]; show 2 * i.val + 2 < _; omega) hs (hd₀ ▸ credit_r1 i)) $$ [Hat Hc HO]
  · isplitr; · iexact HR
    isplitr; · iexact Hlev
    isplitl [Hat]; · iexact Hat
    isplitl [Hc] <;> iassumption
  iintro ⟨Hp, Hv, HO⟩
  ihave H1 := (show dPay m c (1 : Fin 4).val i ⊢ r1P c i fullShare (eAll m (yn c)) from Entails.of_eq rfl) $$ Hp
  iapply (wp_zsend m K i a hn hsrc hdst hS hR) $$ [H1 Ht0 Ht1 H2 HO]
  · isplitr; · iexact HR
    isplitl [H1]; · iexact H1
    isplitl [Ht0]; · iexact Ht0
    isplitl [Ht1]; · iexact Ht1
    isplitl [H2] <;> iassumption
  iintro ⟨Hc, H1, HO⟩
  iapply Hk
  isplitr [HO]
  · iapply HB
    unfold zB'
    isplitl [Hc]; · iexact Hc
    isplitl [H1] <;> iassumption
  iexact HO

/-- Receiving block `i` across `z`. -/
theorem wp_receive (i : Fin 32) {a b n : ℕ} (ha : i.val < a) (hb : i.val < b) (hn : n = i.val) {sem : DmaSem sig} (hs : sem = ds 3 i) {s₀ d₀ : Memref sig .tc .vmem S512x256 .bf16} (hd₀ : d₀ = slot r2M i)
    {g1 : s₀.view.WordExact} {g2 : d₀.view.WordExact} {k : PUnit → Prog (TpuEff nD τ sig (Elt F) Λ₀ .tc) α} :
    iprop(records m K ∗ levAts L lv ∗ Fam (rC c) (rC' m c) n ∗ OW c (owed c a b))
      ⊢ iprop((iprop(Fam (rC c) (rC' m c) (n + 1) ∗ OW c (owed c a b)) -∗ Wp c (k ⟨⟩) Q)
          -∗ Wp c (.op (.waitDma2 sem s₀ d₀ g1 g2) k) Q) := by
  subst hn
  iintro ⟨#HR, #Hlev, HC, HO⟩ Hk
  ihave HC' := (Fam_step i) $$ HC
  icases HC' with ⟨Hb, HC⟩
  unfold rC
  icases Hb with ⟨Hat, Hc⟩
  iapply (wp_dwait m K 3 i (a := a) (b := b) (by rw [lv_d c 3 i]; show 2 * i.val + 3 < _; omega) (by rw [lv_d c 3 i]; show 2 * i.val + 3 < _; omega) hs (hd₀ ▸ credit_r2 i)) $$ [Hat Hc HO]
  · isplitr; · iexact HR
    isplitr; · iexact Hlev
    isplitl [Hat]; · iexact Hat
    isplitl [Hc] <;> iassumption
  iintro ⟨Hp, Hv, HO⟩
  ihave H1 := (show dPay m c (3 : Fin 4).val i ⊢ r2P c i (eAll m (yn (zn c))) from Entails.of_eq rfl) $$ Hp
  iapply Hk
  isplitr [HO]
  · iapply HC
    unfold rC'
    isplitl [H1] <;> iassumption
  iexact HO

end Cert.DwProof

end
-- ==== Proof.Trip.lean ====
/-
One trip of the pipelined loop: block `t` of `dy` is multiplied, block `t - 2` is passed on, and tile `t - 4` is emitted.
-/
module

public import proofs.«01_k».proof.Proof.Exchange

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable {c : Dev nD} {α : Type} {Q : α → sProp (MT nD τ sig Unit (Elt F) ℕ UU ℕ)} (K : KI → ℕ)

/-! ## The trip's conditions and offsets -/

theorem trip_lt (t : Fin k0_t1_loop.trips) : t.val < 32 := lt_of_lt_of_eq t.isLt (by decide)

theorem cond1_iff : ∀ t : Fin k0_t1_loop.trips, k0_cond1 t = 1#1 ↔ t.val + 1 < 32 := by decide +kernel
theorem cond2_true : ∀ t : Fin k0_t1_loop.trips, k0_cond2 t = 1#1 := by decide +kernel
theorem cond3_iff : ∀ t : Fin k0_t1_loop.trips, k0_cond3 t = 1#1 ↔ 2 ≤ t.val := by decide +kernel
theorem cond4_iff : ∀ t : Fin k0_t1_loop.trips, k0_cond4 t = 1#1 ↔ 4 ≤ t.val := by decide +kernel
theorem cond5_iff : ∀ t : Fin k0_t1_loop.trips, k0_cond5 t = 1#1 ↔ 5 ≤ t.val := by decide +kernel

/-- The half of the staging buffer trip `t` reads. -/
def par (t : ℕ) : Fin 2 := ⟨t % 2, Nat.mod_lt _ (by decide)⟩
theorem par_two (t : ℕ) : par (t + 1 + 1) = par t := Fin.ext (Nat.add_mod_right t 2)

theorem off4_eq : ∀ t : Fin k0_t1_loop.trips, k0_cond1 t = 1#1 → k0_off4 t = ![(par (t.val + 1)).val] := by decide +kernel
theorem off5_eq : ∀ t : Fin k0_t1_loop.trips, k0_cond1 t = 1#1 → k0_off5 t = ![(par (t.val + 1)).val, 0, 0] := by decide +kernel
theorem off7_eq : ∀ t : Fin k0_t1_loop.trips, k0_off7 t = ![(par t.val).val] := by decide +kernel
theorem off8_eq : ∀ t : Fin k0_t1_loop.trips, k0_off8 t = ![(par t.val).val, 0, 0] := by decide +kernel
theorem off10_eq : ∀ t : Fin k0_t1_loop.trips, k0_off10 t = ![(par t.val).val, 0, 0] := by decide +kernel
theorem off11_eq : ∀ t : Fin k0_t1_loop.trips, k0_off11 t = ![t.val, 0, 0] := by decide +kernel
theorem off15_eq : ∀ t : Fin k0_t1_loop.trips, k0_cond3 t = 1#1 → k0_off15 t = ![t.val - 2] := by decide +kernel
theorem off16_eq : ∀ t : Fin k0_t1_loop.trips, k0_cond3 t = 1#1 → k0_off16 t = ![t.val - 2, 0, 0] := by decide +kernel
theorem off17_eq : ∀ t : Fin k0_t1_loop.trips, k0_cond4 t = 1#1 → k0_off17 t = ![t.val - 4] := by decide +kernel
theorem off18_eq : ∀ t : Fin k0_t1_loop.trips, k0_cond4 t = 1#1 → k0_off18 t = ![t.val - 4, 0, 0] := by decide +kernel
theorem off20_eq : ∀ t : Fin k0_t1_loop.trips, k0_cond4 t = 1#1 → k0_off20 t = ![0, 256 * (t.val - 4)] := by decide +kernel
theorem off21_eq : ∀ t : Fin k0_t1_loop.trips, k0_cond4 t = 1#1 → k0_off21 t = ![t.val - 4, 0, 0] := by decide +kernel
theorem off22_eq : ∀ t : Fin k0_t1_loop.trips, k0_cond4 t = 1#1 → k0_off22 t = ![0, 256 * (t.val - 4)] := by decide +kernel

theorem slot_half (b : Memref sig .tc .vmem S2x2048x256 .f32) {off : Fin 3 → Nat} {s : Fin 2} (h : off = ![s.val, 0, 0])
    (p : ∀ a, off a + S1x2048x256.size a ≤ S2x2048x256.size a) :
    (b.slice (Rect.unit (s := S2x2048x256) off S1x2048x256.size p) (fun _ => rfl)).squeeze S2048x256 squeezes_S1x2048x256_S2048x256 = half b s := by
  subst h; rfl

/-- A program that has ended owes its postcondition. -/
theorem wp_done {c : Dev nD} {α : Type} {a : α} {Q : α → sProp (MT nD τ sig Unit (Elt F) ℕ UU ℕ)} : Q a ⊢ Wp c (.ret a) Q := by
  show _ ⊢ iprop(|={Set.univ}[frame]=> Q a)
  iintro H
  imodintro
  iexact H

/-! ## Conditional steps -/

/-- A step taken under a condition, the rest of the program following either way. -/
theorem wp_if {p : Prop} [Decidable p] {e : p → TpuEff nD τ sig (Elt F) Λ₀ .tc PUnit} {P R : sProp 𝕄}
    (h : ∀ hp : p, ∀ {β : Type} (k : Prog (TpuEff nD τ sig (Elt F) Λ₀ .tc) β) (Q : β → sProp 𝕄), P ⊢ iprop((R -∗ Wp c k Q) -∗ Wp c (.op (e hp) fun _ => k) Q))
    (h' : ¬p → P ⊢ R) {β : Type} {k : Prog (TpuEff nD τ sig (Elt F) Λ₀ .tc) β} {kk : β → Prog (TpuEff nD τ sig (Elt F) Λ₀ .tc) α} :
    P ⊢ iprop((R -∗ Wp c (k >>= kk) Q) -∗ Wp c ((if hp : p then .op (e hp) fun _ => k else k) >>= kk) Q) := by
  by_cases hp : p
  · rw [dif_pos hp]; exact h hp (k >>= kk) Q
  · rw [dif_neg hp]
    iintro HP Hk
    iapply Hk
    iapply (h' hp)
    iexact HP
/-- Two steps taken under a condition. -/
theorem wp_if₂ {p : Prop} [Decidable p] {e e' : p → TpuEff nD τ sig (Elt F) Λ₀ .tc PUnit} {P R : sProp 𝕄} {k : Prog (TpuEff nD τ sig (Elt F) Λ₀ .tc) α}
    (h : ∀ hp : p, P ⊢ iprop((R -∗ Wp c k Q) -∗ Wp c (.op (e hp) fun _ => .op (e' hp) fun _ => k) Q)) (h' : ¬p → P ⊢ R) :
    P ⊢ iprop((R -∗ Wp c k Q) -∗ Wp c (if hp : p then .op (e hp) fun _ => .op (e' hp) fun _ => k else k) Q) := by
  by_cases hp : p
  · rw [dif_pos hp]; exact h hp
  · rw [dif_neg hp]
    iintro HP Hk
    iapply Hk
    iapply (h' hp)
    iexact HP

/-! ## The invariant -/

abbrev dyL (c : Dev nD) : Loc nD τ sig := dyM.view.loc (c : Thread nD τ)
/-- The half that is to hold block `t` of `dy`: its copy under way, or there is none left. -/
def dyS (c : Dev nD) (t : ℕ) : sProp 𝕄 :=
  if t < 32 then busy c ysM (par t) (dycols m c t) (dyL c) (dyF m c) else idle c ysM (par t) (dyL c) (dyF m c)

/-- The copy of block `t` of `dy` starts. -/
theorem wp_dystart {t : ℕ} (ht : t < 32) {off : Fin 2 → Nat} (ho : off = ![0, 256 * t]) {p : ∀ a, off a + S2048x256.size a ≤ S2048x8192.size a}
    {dst : Memref sig .tc .vmem S2048x256 .f32} (hd : dst = half ysM (par t)) {sem : DmaSem sig} (hs : sem = ls (par t))
    {h1 : (dyM.slice (Rect.unit (s := S2048x8192) off S2048x256.size p) (fun _ => rfl)).view.WordExact} {h2 : dst.view.WordExact}
    {h3 : (DmaTarget.here (nD := nD) (τ := τ) (sig := sig) (p := Proc.tc) dst).Typed Space.hbm (SemLoc.dma sem)}
    {k : PUnit → Prog (TpuEff nD τ sig (Elt F) Λ₀ .tc) α} :
    idle c ysM (par t) (dyL c) (dyF m c)
      ⊢ iprop((busy c ysM (par t) (dycols m c t) (dyL c) (dyF m c) -∗ Wp c (k ⟨⟩) Q)
          -∗ Wp c (.op (.enqueueDma (dyM.slice (Rect.unit (s := S2048x8192) off S2048x256.size p) (fun _ => rfl)) (.here dst) (.dma sem) h1 h2 h3) k) Q) :=
  wp_start (c := c) (src := dyM.slice (Rect.unit (s := S2048x8192) off S2048x256.size p) (fun _ => rfl)) (f := dyF m c) ysM (par t) (dycols m c t)
    (fun g => ys_load (par t) g _) (dy_read m ho ht p) hd hs

/-- The result's tiles before trip `t`. -/
def outS (c : Dev nD) (t : ℕ) : sProp 𝕄 := if t ≤ 4 then outI m c 0 else outB m c (t - 4)

/-- What a device holds before trip `t`. -/
def Inv (c : Dev nD) (t : ℕ) : sProp 𝕄 :=
  iprop(records m K ∗ levAts L lv ∗ Fam (yA c) (yA' c) t ∗ Fam (zB c) (zB' m c) (t - 2) ∗ Fam (rC c) (rC' m c) (t - 4) ∗ OW c (owed c t (t - 2))
    ∗ xaP m c 6 ∗ dP m c t ∗ dyS m c t ∗ idle c ysM (par (t + 1)) (dyL c) (dyF m c) ∗ outS m c t)

abbrev tripBody (c : Dev nD) (v2 v5 v8 v9 v10 : BitVec 32) : Fin k0_t1_loop.trips → Unit → Prog (TpuEff nD τ sig (Elt F) Λ₀ .tc) Unit :=
  k0_t1_body xM (Memref.isWhole_whole _) dyM (Memref.isWhole_whole _) outM (Memref.isWhole_whole _) xsM (Memref.isWhole_whole _) xaM (Memref.isWhole_whole _)
    ysM (Memref.isWhole_whole _) eM (Memref.isWhole_whole _) dM (Memref.isWhole_whole _) r1M (Memref.isWhole_whole _) r2M (Memref.isWhole_whole _) osM (Memref.isWhole_whole _)
    cc0_scratch8 cc0_scratch9 cc0_scratch10 cc0_scratch11 cc0_scratch12 cc0_scratch13 c v2 v5 v8 v9 v10 (v137 c)

set_option maxHeartbeats 1600000 in
/-- One trip. -/
theorem wp_trip (t : Fin k0_t1_loop.trips) (v2 v5 v8 v9 v10 : BitVec 32) :
    Inv m K c t.val ⊢ Wp c (tripBody (F := F) c v2 v5 v8 v9 v10 t ()) fun _ => Inv m K c (t.val + 1) := by
  have ht := trip_lt t
  unfold tripBody k0_t1_body
  simp only [k0_part2_eq_skeleton, k0_part3_eq_skeleton, k0_part1_eq_skeleton]
  unfold k0_part2_skel k0_part3_skel k0_part1_skel
  simp only [Prog.lift, Prog.bind_op, Prog.bind_ret, Prog.pure_eq_ret]
  unfold Inv
  iintro ⟨#HR, #Hlev, HA, HB, HC, HO, Hx, Hd, Hy, Hi, Ho⟩
  -- the copy of the next block of `dy` starts
  iapply (wp_if (c := c) (P := idle c ysM (par (t.val + 1)) (dyL c) (dyF m c)) (R := dyS m c (t.val + 1)) ?h ?h') $$ Hi
  case h =>
    intro hp β k Q
    have h1 := (cond1_iff t).mp hp
    rw [show dyS m c (t.val + 1) = busy c ysM (par (t.val + 1)) (dycols m c (t.val + 1)) (dyL c) (dyF m c) from if_pos h1]
    exact wp_dystart (k := fun _ => k) m h1 ((k0_off6_eq t).trans (by rw [Nat.mul_succ])) (slot_half ysM (off5_eq t hp) _) (ls_eq (off4_eq t hp) _)
  case h' =>
    intro hp
    rw [show dyS m c (t.val + 1) = idle c ysM (par (t.val + 1)) (dyL c) (dyF m c) from if_neg fun h => hp ((cond1_iff t).mpr h)]
  iintro Hi
  conv => arg 2; simp only [Prog.bind_op, Prog.bind_ret]
  -- block `t` lands and is multiplied
  ihave Hy := (Entails.of_eq (show dyS m c t.val = busy c ysM (par t.val) (dycols m c t.val) (dyL c) (dyF m c) from if_pos ht)) $$ Hy
  iapply (wp_await (c := c) ysM (par t.val) (dycols m c t.val) (ℓ := dyL c) (f := dyF m c) (x := t.val) (y := t.val - 2)
    (slot_half ysM (off8_eq t) _) (ls_eq (off7_eq t) _)) $$ [Hy HO]
  · isplitr; · iexact Hlev
    isplitl [Hy] <;> iassumption
  iintro ⟨Hy, HO⟩
  iapply (wp_staged (c := c) ysM (par t.val) (dycols m c t.val) (ℓ := dyL c) (f := dyF m c) (off10_eq t)) $$ Hy
  iintro Hy
  iapply (wp_xload m) $$ Hx
  iintro Hx
  ihave HA' := (Fam_step (P := yA c) (P' := yA' c) (⟨t.val, ht⟩ : Fin 32)) $$ HA
  icases HA' with ⟨Ha, HA⟩
  unfold yA
  icases Ha with ⟨He, Ht0, Ht1, H1⟩
  iapply (wp_estore m (i := (⟨t.val, ht⟩ : Fin 32)) (off11_eq t) rfl) $$ He
  iintro He
  iapply (wp_dstore m (n := t.val) (by omega) (k0_off12_eq t) rfl) $$ Hd
  iintro Hd
  rw [dif_pos (cond2_true t)]
  -- its rows for the `y` neighbour leave
  iapply (wp_ysend m K (⟨t.val, ht⟩ : Fin 32) (t.val - 2) (dev3_eq c _) (slot_eq eM (k0_off14_eq t) _) (slot_eq r1M (k0_off14_eq t) _)
    (ys_eq (k0_off13_eq t) _) (yr_eq (k0_off13_eq t) _)) $$ [He Ht0 Ht1 H1 HO]
  · isplitr; · iexact HR
    isplitl [He]; · iexact He
    isplitl [Ht0]; · iexact Ht0
    isplitl [Ht1]; · iexact Ht1
    isplitl [H1] <;> iassumption
  iintro ⟨Ha, HO⟩
  ihave HA := HA $$ Ha
  -- block `t - 2` is passed on
  iapply (wp_if₂ (c := c) (P := iprop(records m K ∗ levAts L lv ∗ Fam (zB c) (zB' m c) (t.val - 2) ∗ OW c (owed c (t.val + 1) (t.val - 2))))
    (R := iprop(Fam (zB c) (zB' m c) (t.val + 1 - 2) ∗ OW c (owed c (t.val + 1) (t.val + 1 - 2)))) ?h ?h') $$ [HB HO]
  case h =>
    intro hp
    have h2 := (cond3_iff t).mp hp
    rw [show t.val + 1 - 2 = t.val - 2 + 1 by omega]
    iintro H Hk
    iapply (wp_pass m K (⟨t.val - 2, by omega⟩ : Fin 32) (a := t.val + 1) (b := t.val - 2) (show t.val - 2 < t.val + 1 by omega) rfl (yr_eq (off15_eq t hp) _)
      (slot_eq r1M (off16_eq t hp) _) (dev4_eq c _) (slot_eq r1M (off16_eq t hp) _) (slot_eq r2M (off16_eq t hp) _)
      (zs_eq (off15_eq t hp) _) (zr_eq (off15_eq t hp) _)) $$ H
    iexact Hk
  case h' =>
    intro hp
    have h2 : ¬2 ≤ t.val := fun h => hp ((cond3_iff t).mpr h)
    rw [show t.val + 1 - 2 = t.val - 2 by omega]
    iintro ⟨-, -, HB, HO⟩
    isplitl [HB] <;> iassumption
  · isplitr; · iexact HR
    isplitr; · iexact Hlev
    isplitl [HB] <;> iassumption
  iintro ⟨HB, HO⟩
  -- tile `t - 4` is emitted
  by_cases h4 : k0_cond4 t = 1#1
  · have h4' := (cond4_iff t).mp h4
    rw [dif_pos h4]
    conv => arg 2; simp only [Prog.bind_op, Prog.bind_ret]
    iapply (wp_receive m K (⟨t.val - 4, by omega⟩ : Fin 32) (a := t.val + 1) (b := t.val + 1 - 2) (n := t.val - 4) (show t.val - 4 < t.val + 1 by omega)
      (show t.val - 4 < t.val + 1 - 2 by omega) rfl (zr_eq (off17_eq t h4) _) (slot_eq r2M (off18_eq t h4) _)) $$ [HC HO]
    · isplitr; · iexact HR
      isplitr; · iexact Hlev
      isplitl [HC] <;> iassumption
    iintro ⟨HC, HO⟩
    iapply (wp_if (c := c) (P := iprop(levAts L lv ∗ outS m c t.val ∗ OW c (owed c (t.val + 1) (t.val + 1 - 2))))
      (R := iprop(outI m c (t.val - 4) ∗ OW c (owed c (t.val + 1) (t.val + 1 - 2)))) ?h ?h') $$ [Ho HO]
    case h =>
      intro hp β k Q
      have h5 := (cond5_iff t).mp hp
      rw [show outS m c t.val = outB m c (t.val - 4) from if_neg (by omega)]
      exact wp_outwait m os_eq (k := fun _ => k)
    case h' =>
      intro hp
      have h5 : t.val = 4 := by
        have : ¬5 ≤ t.val := fun h => hp ((cond5_iff t).mpr h)
        omega
      rw [show outS m c t.val = outI m c 0 from if_pos (by omega), show t.val - 4 = 0 by omega]
      iintro ⟨-, Ho, HO⟩
      isplitl [Ho] <;> iassumption
    · isplitr; · iexact Hlev
      isplitl [Ho] <;> iassumption
    iintro ⟨Ho, HO⟩
    conv => arg 2; simp only [Prog.bind_op, Prog.bind_ret]
    ihave HB' := (Fam_borrow (P := zB c) (P' := zB' m c) (⟨t.val - 4, by omega⟩ : Fin 32) (show t.val - 4 < t.val + 1 - 2 by omega)) $$ HB
    icases HB' with ⟨Hb, HB⟩
    ihave HC' := (Fam_borrow (P := rC c) (P' := rC' m c) (⟨t.val - 4, by omega⟩ : Fin 32) (show t.val - 4 < t.val - 4 + 1 by omega)) $$ HC
    icases HC' with ⟨Hc, HC⟩
    unfold zB' rC'
    icases Hb with ⟨Hb1, Hb2, Hb3⟩
    icases Hc with ⟨Hc1, Hc2⟩
    iapply (wp_emit m (i := (⟨t.val - 4, by omega⟩ : Fin 32)) (n := t.val + 1) (show t.val - 4 < t.val + 1 by omega) (off20_eq t h4) (off21_eq t h4) (off21_eq t h4)
      (off22_eq t h4) os_eq (P := k0_pay5 (v137 c)) (R := fun d a b => k0_pay17 (k0_pay6 (v137 c) d a b)) rfl rfl) $$ [Hd Hb2 Hc1 Ho]
    · isplitl [Hd]; · iexact Hd
      isplitl [Hb2]; · iexact Hb2
      isplitl [Hc1] <;> iassumption
    iintro ⟨Hd, Hb2, Hc1, Ho⟩
    ihave HB := HB $$ [Hb1 Hb2 Hb3]
    · isplitl [Hb1]; · iexact Hb1
      isplitl [Hb2] <;> iassumption
    ihave HC := HC $$ [Hc1 Hc2]
    · isplitl [Hc1] <;> iassumption
    iapply (wp_done (c := c))
    rw [show t.val + 1 - 4 = t.val - 4 + 1 by omega]
    isplitr; · iexact HR
    isplitr; · iexact Hlev
    isplitl [HA]; · iexact HA
    isplitl [HB]; · iexact HB
    isplitl [HC]; · iexact HC
    isplitl [HO]; · iexact HO
    isplitl [Hx]; · iexact Hx
    isplitl [Hd]; · iexact Hd
    isplitl [Hi]; · iexact Hi
    isplitl [Hy]
    · rw [par_two]; iapply got_idle; iexact Hy
    · iapply (Entails.of_eq (show outB m c (t.val - 4 + 1) = outS m c (t.val + 1) from by unfold outS; rw [if_neg (by omega), show t.val + 1 - 4 = t.val - 4 + 1 by omega]))
      iexact Ho
  · have h4' : ¬4 ≤ t.val := fun h => h4 ((cond4_iff t).mpr h)
    rw [dif_neg h4]
    iapply (wp_done (c := c))
    rw [show t.val + 1 - 4 = t.val - 4 by omega]
    isplitr; · iexact HR
    isplitr; · iexact Hlev
    isplitl [HA]; · iexact HA
    isplitl [HB]; · iexact HB
    isplitl [HC]; · iexact HC
    isplitl [HO]; · iexact HO
    isplitl [Hx]; · iexact Hx
    isplitl [Hd]; · iexact Hd
    isplitl [Hi]; · iexact Hi
    isplitl [Hy]
    · rw [par_two]; iapply got_idle; iexact Hy
    · iapply (Entails.of_eq (show outS m c t.val = outS m c (t.val + 1) from by unfold outS; rw [if_pos (by omega), if_pos (by omega)]))
      iexact Ho

end Cert.DwProof

end
-- ==== Proof.Pieces.lean ====
/-
The steps of the kernel before and after its main loop: a block of `x` staged and rounded, a tile emitted, the last
departures waited for.
-/
module

public import proofs.«01_k».proof.Proof.Trip

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : KI → ℕ)
variable {c : Dev nD} {α : Type} {Q : α → sProp (MT nD τ sig Unit (Elt F) ℕ UU ℕ)}

/-! ## The columns of `x` -/

abbrev xL (c : Dev nD) : Loc nD τ sig := xM.view.loc (c : Thread nD τ)

/-- The copy of the `j`-th block of `x` starts. -/
theorem wp_xstart (s : Fin 2) {j : ℕ} (hj : j < 6) {off : Fin 2 → Nat} (ho : off = ![0, xCol c j])
    {p : ∀ a, off a + S2048x256.size a ≤ S2048x2048.size a}
    {dst : Memref sig .tc .vmem S2048x256 .f32} (hd : dst = half xsM s) {sem : DmaSem sig} (hs : sem = ls s)
    {h1 : (xM.slice (Rect.unit (s := S2048x2048) off S2048x256.size p) (fun _ => rfl)).view.WordExact} {h2 : dst.view.WordExact}
    {h3 : (DmaTarget.here (nD := nD) (τ := τ) (sig := sig) (p := Proc.tc) dst).Typed Space.hbm (SemLoc.dma sem)}
    {k : PUnit → Prog (TpuEff nD τ sig (Elt F) Λ₀ .tc) α} :
    idle c xsM s (xL c) (xF m c)
      ⊢ iprop((busy c xsM s (xcols m c j) (xL c) (xF m c) -∗ Wp c (k ⟨⟩) Q)
          -∗ Wp c (.op (.enqueueDma (xM.slice (Rect.unit (s := S2048x2048) off S2048x256.size p) (fun _ => rfl)) (.here dst) (.dma sem) h1 h2 h3) k) Q) :=
  wp_start (c := c) (src := xM.slice (Rect.unit (s := S2048x2048) off S2048x256.size p) (fun _ => rfl)) (f := xF m c) xsM s (xcols m c j)
    (fun g => xs_load s g _) (x_read m ho hj p) hd hs

/-- The `j`-th block of `x` lands, is rounded and stored. -/
theorem wp_xblock (s : Fin 2) {j : ℕ} (hj : 256 * j + 256 ≤ 1536) {x y : ℕ}
    {src : Memref sig .tc .hbm S2048x256 .f32} {dst : Memref sig .tc .vmem S2048x256 .f32} (hd : dst = half xsM s) {sem : DmaSem sig} (hs : sem = ls s)
    {oh : Fin 3 → Nat} (hoh : oh = ![s.val, 0, 0]) {ph : ∀ a, oh a + S1x2048x256.size a ≤ S2x2048x256.size a}
    {oc : Fin 2 → Nat} (hoc : oc = ![0, 256 * j]) {pc : ∀ a, oc a + S2048x256.size a ≤ S2048x1536.size a}
    {pay : Vec F S1x2048x256 .f32 → Vec F S2048x256 .bf16} (hpay : pay = k0_pay10)
    {h1 : src.view.WordExact} {h2 : dst.view.WordExact}
    {l1 : xsM.view.LoadsAt (Rect.unit (s := S2x2048x256) oh S1x2048x256.size ph).toLoadRect}
    {l2 : xaM.view.LoadsAt (Rect.unit (s := S2048x1536) oc S2048x256.size pc).toLoadRect}
    {hx : (xaM.access (Rect.unit (s := S2048x1536) oc S2048x256.size pc)).Stores Finset.univ} {hm}
    {k : PUnit → Prog (TpuEff nD τ sig (Elt F) Λ₀ .tc) α} :
    iprop(levAts L lv ∗ busy c xsM s (xcols m c j) (xL c) (xF m c) ∗ xaP m c j ∗ OW c (owed c x y))
      ⊢ iprop((iprop(idle c xsM s (xL c) (xF m c) ∗ xaP m c (j + 1) ∗ OW c (owed c x y)) -∗ Wp c (k ⟨⟩) Q)
          -∗ Wp c (.op (.waitDma2 sem src dst h1 h2) fun _ => .op (.load xsM (Rect.unit (s := S2x2048x256) oh S1x2048x256.size ph).toLoadRect l1) fun v =>
              .op (.load xaM (Rect.unit (s := S2048x1536) oc S2048x256.size pc).toLoadRect l2) fun _ =>
              .op (.store xaM (Rect.unit (s := S2048x1536) oc S2048x256.size pc) (pay v) Finset.univ hx hm) k) Q) := by
  subst hpay
  iintro ⟨#Hlev, Hb, Hx, HO⟩ Hk
  iapply (wp_await (c := c) xsM s (xcols m c j) (ℓ := xL c) (f := xF m c) (x := x) (y := y) hd hs) $$ [Hb HO]
  · isplitr; · iexact Hlev
    isplitl [Hb] <;> iassumption
  iintro ⟨Hb, HO⟩
  iapply (wp_staged (c := c) xsM s (xcols m c j) (ℓ := xL c) (f := xF m c) hoh) $$ Hb
  iintro Hb
  iapply (wp_xstore m (n := j) hj hoc rfl) $$ Hx
  iintro Hx
  iapply Hk
  isplitl [Hb]; · (iapply got_idle; iexact Hb)
  isplitl [Hx] <;> iassumption

theorem xoff1 (r : Fin 2) : k0_off1 c (BitVec.ofNat 32 (256 * r.val)) = ![0, xCol c r.val] := by
  have : xCol c r.val = (512 * (c.val % 2) + 256 * r.val + 1024) - 1024 * ((c.val / 2) % 2) := by
    unfold xCol; rw [if_pos (by omega)]; omega
  rw [k0_off1_eq, this]
theorem xoff2 (r : Fin 2) : k0_off2 c (BitVec.ofNat 32 (256 * r.val)) = ![0, xCol c (r.val + 2)] := by
  have : xCol c (r.val + 2) = 1024 * ((c.val / 2) % 2) + 256 * r.val := by
    unfold xCol; rw [if_neg (by omega)]; omega
  rw [k0_off2_eq, this]
theorem xoff3 (r : Fin 2) : k0_off3 c (BitVec.ofNat 32 (256 * r.val)) = ![0, xCol c (r.val + 4)] := by
  have : xCol c (r.val + 4) = 1024 * ((c.val / 2) % 2) + 256 * r.val + 512 := by
    unfold xCol; rw [if_neg (by omega)]; omega
  rw [k0_off3_eq, this]

/-! ## The last tiles -/

/-- Block `i` arrives across `z`, the tile before is out, and tile `i` leaves. -/
theorem wp_tile (i : Fin 32)
    {sem : DmaSem sig} (hs : sem = ds 3 i) {s₀ d₀ : Memref sig .tc .vmem S512x256 .bf16} (hd₀ : d₀ = slot r2M i)
    {g1 : s₀.view.WordExact} {g2 : d₀.view.WordExact}
    {ow : Fin 2 → Nat} {pw : ∀ a, ow a + S1024x256.size a ≤ S1024x8192.size a}
    {od : Fin 2 → Nat} (hod : od = ![0, 256 * i.val]) {pd : ∀ a, od a + S1024x256.size a ≤ S1024x8192.size a}
    {oa : Fin 3 → Nat} (hoa : oa = ![i.val, 0, 0]) {pa : ∀ a, oa a + S1x512x256.size a ≤ S32x512x256.size a}
    {pt : ∀ a, (![0, 0] : Fin 2 → Nat) a + S512x256.size a ≤ S1024x256.size a} {pu : ∀ a, (![512, 0] : Fin 2 → Nat) a + S512x256.size a ≤ S1024x256.size a}
    {so : DmaSem sig} (hso : so = os)
    {e1 : osM.view.WordExact} {e2 : (outM.slice (Rect.unit (s := S1024x8192) ow S1024x256.size pw) (fun _ => rfl)).view.WordExact}
    {l1 : dM.view.LoadsAt (Rect.unit (s := S1024x8192) od S1024x256.size pd).toLoadRect}
    {l2 : r1M.view.LoadsAt (Rect.unit (s := S32x512x256) oa S1x512x256.size pa).toLoadRect}
    {l3 : r2M.view.LoadsAt (Rect.unit (s := S32x512x256) oa S1x512x256.size pa).toLoadRect}
    {l4 : osM.view.LoadsAt (Rect.unit (s := S1024x256) ![0, 0] S512x256.size pt).toLoadRect}
    {l5 : osM.view.LoadsAt (Rect.unit (s := S1024x256) ![512, 0] S512x256.size pu).toLoadRect}
    {P R : Vec F S1024x256 .bf16 → Vec F S1x512x256 .bf16 → Vec F S1x512x256 .bf16 → Vec F S512x256 .bf16}
    (hP : P = tileT c) (hR : R = tileB c)
    {x1 : (osM.access (Rect.unit (s := S1024x256) ![0, 0] S512x256.size pt)).Stores Finset.univ} {y1}
    {x2 : (osM.access (Rect.unit (s := S1024x256) ![512, 0] S512x256.size pu)).Stores Finset.univ} {y2}
    {h1 : osM.view.WordExact} {h2 : (outM.slice (Rect.unit (s := S1024x8192) od S1024x256.size pd) (fun _ => rfl)).view.WordExact}
    {h3 : (DmaTarget.here (nD := nD) (τ := τ) (sig := sig) (p := Proc.tc) (outM.slice (Rect.unit (s := S1024x8192) od S1024x256.size pd) (fun _ => rfl))).Typed Space.vmem (SemLoc.dma so)}
    {k : PUnit → Prog (TpuEff nD τ sig (Elt F) Λ₀ .tc) α} :
    iprop(records m K ∗ levAts L lv ∗ Fam (zB c) (zB' m c) 32 ∗ Fam (rC c) (rC' m c) i.val ∗ dP m c 32 ∗ outB m c i.val ∗ OW c (owed c 32 32))
      ⊢ iprop((iprop(Fam (zB c) (zB' m c) 32 ∗ Fam (rC c) (rC' m c) (i.val + 1) ∗ dP m c 32 ∗ outB m c (i.val + 1) ∗ OW c (owed c 32 32)) -∗ Wp c (k ⟨⟩) Q)
          -∗ Wp c (.op (.waitDma2 sem s₀ d₀ g1 g2) fun _ =>
              .op (.waitDma2 so osM (outM.slice (Rect.unit (s := S1024x8192) ow S1024x256.size pw) (fun _ => rfl)) e1 e2) fun _ =>
              .op (.load dM (Rect.unit (s := S1024x8192) od S1024x256.size pd).toLoadRect l1) fun vd =>
              .op (.load r1M (Rect.unit (s := S32x512x256) oa S1x512x256.size pa).toLoadRect l2) fun va =>
              .op (.load r2M (Rect.unit (s := S32x512x256) oa S1x512x256.size pa).toLoadRect l3) fun vb =>
              .op (.load osM (Rect.unit (s := S1024x256) ![0, 0] S512x256.size pt).toLoadRect l4) fun _ =>
              .op (.store osM (Rect.unit (s := S1024x256) ![0, 0] S512x256.size pt) (P vd va vb) Finset.univ x1 y1) fun _ =>
              .op (.load osM (Rect.unit (s := S1024x256) ![512, 0] S512x256.size pu).toLoadRect l5) fun _ =>
              .op (.store osM (Rect.unit (s := S1024x256) ![512, 0] S512x256.size pu) (R vd va vb) Finset.univ x2 y2) fun _ =>
              .op (.enqueueDma osM (.here (outM.slice (Rect.unit (s := S1024x8192) od S1024x256.size pd) (fun _ => rfl))) (.dma so) h1 h2 h3) k) Q) := by
  subst hP hR
  iintro ⟨#HR, #Hlev, HB, HC, Hd, Ho, HO⟩ Hk
  iapply (wp_receive m K i (a := 32) (b := 32) (n := i.val) i.isLt i.isLt rfl hs hd₀) $$ [HC HO]
  · isplitr; · iexact HR
    isplitr; · iexact Hlev
    isplitl [HC] <;> iassumption
  iintro ⟨HC, HO⟩
  iapply (wp_outwait m (c := c) (n := i.val) (x := 32) (y := 32) hso) $$ [Ho HO]
  · isplitr; · iexact Hlev
    isplitl [Ho] <;> iassumption
  iintro ⟨Ho, HO⟩
  ihave HB' := (Fam_borrow (P := zB c) (P' := zB' m c) i i.isLt) $$ HB
  icases HB' with ⟨Hb, HB⟩
  ihave HC' := (Fam_borrow (P := rC c) (P' := rC' m c) i (Nat.lt_succ_self i.val)) $$ HC
  icases HC' with ⟨Hc, HC⟩
  unfold zB' rC'
  icases Hb with ⟨Hb1, Hb2, Hb3⟩
  icases Hc with ⟨Hc1, Hc2⟩
  iapply (wp_emit m (i := i) (n := 32) i.isLt hod hoa hoa hod hso (P := tileT c) (R := tileB c) rfl rfl) $$ [Hd Hb2 Hc1 Ho]
  · isplitl [Hd]; · iexact Hd
    isplitl [Hb2]; · iexact Hb2
    isplitl [Hc1] <;> iassumption
  iintro ⟨Hd, Hb2, Hc1, Ho⟩
  ihave HB := HB $$ [Hb1 Hb2 Hb3]
  · isplitl [Hb1]; · iexact Hb1
    isplitl [Hb2] <;> iassumption
  ihave HC := HC $$ [Hc1 Hc2]
  · isplitl [Hc1] <;> iassumption
  iapply Hk
  isplitl [HB]; · iexact HB
  isplitl [HC]; · iexact HC
  isplitl [Hd]; · iexact Hd
  isplitl [Ho] <;> iassumption

/-! ## The departures -/

/-- Before block `i`'s departures are waited for: where its two semaphores stand, and what the sends left. -/
def gP (c : Dev nD) (i : Fin 32) : sProp 𝕄 := iprop(gD c i ∗ yA' c i ∗ zB' m c i)
/-- After: the block's slots are whole again and its send semaphores at zero. -/
def gP' (c : Dev nD) (i : Fin 32) : sProp 𝕄 :=
  iprop((∃ f, eP c i f) ∗ (∃ f, r1P c i fullShare f) ∗ semVal (dCell c 0 i) 0 ∗ semVal (dCell c 1 i) 0 ∗ semVal (dCell c 2 i) 0)

/-- A wait on one of the exchange's semaphores, for a copy into block `i` of an array. -/
theorem wp_dwait_slot (M : Memref sig .tc .vmem S32x512x256 .bf16) (k : Fin 4) (i : Fin 32) {a b : ℕ} (ha : lv (dCell c k i) () < 2 * a + 2)
    (hb : lv (dCell c k i) () < 2 * b + 3) {sem : DmaSem sig} (hs : sem = ds k i) {src dst : Memref sig .tc .vmem S512x256 .bf16}
    (hd : dst = slot M i) (hN : (slot M i).view.dmaCredit = N)
    {h1 : src.view.WordExact} {h2 : dst.view.WordExact} {kk : PUnit → Prog (TpuEff nD τ sig (Elt F) Λ₀ .tc) α} :
    iprop(records m K ∗ levAts L lv ∗ atPos ER (dCell c k i) 0 ∅ 0 ∗ cred (tallyAt (dCell c k i) () N) ∗ OW c (owed c a b))
      ⊢ iprop((iprop(dPay m c k.val i ∗ semVal (dCell c k i) 0 ∗ OW c (owed c a b)) -∗ Wp c (kk ⟨⟩) Q)
          -∗ Wp c (.op (.waitDma2 sem src dst h1 h2) kk) Q) :=
  wp_dwait m K k i (a := a) (b := b) ha hb hs (hd ▸ hN)

abbrev drainBody : Fin k0_t2_loop.trips → Unit → Prog (TpuEff nD τ sig (Elt F) Λ₀ .tc) Unit :=
  k0_t2_body xM (Memref.isWhole_whole _) dyM (Memref.isWhole_whole _) outM (Memref.isWhole_whole _) xsM (Memref.isWhole_whole _) xaM (Memref.isWhole_whole _)
    ysM (Memref.isWhole_whole _) eM (Memref.isWhole_whole _) dM (Memref.isWhole_whole _) r1M (Memref.isWhole_whole _) r2M (Memref.isWhole_whole _) osM (Memref.isWhole_whole _)
    cc0_scratch8 cc0_scratch9 cc0_scratch10 cc0_scratch11 cc0_scratch12 cc0_scratch13

def DInv (c : Dev nD) (t : ℕ) : sProp 𝕄 := iprop(records m K ∗ levAts L lv ∗ Fam (gP m c) (gP' c) t ∗ OW c (owed c 32 32))

theorem drain_lt (t : Fin k0_t2_loop.trips) : t.val < 32 := by
  have h : k0_t2_loop.trips = 32 := by decide +kernel
  have := t.isLt
  omega

/-- One trip of the closing loop. -/
theorem wp_drain (c : Dev nD) (t : Fin k0_t2_loop.trips) :
    DInv m K c t.val ⊢ Wp c (drainBody (F := F) t ()) fun _ => DInv m K c (t.val + 1) := by
  have ht := drain_lt t
  unfold drainBody k0_t2_body
  simp only [Prog.lift, Prog.bind_op, Prog.bind_ret, Prog.pure_eq_ret]
  unfold DInv
  iintro ⟨#HR, #Hlev, HG, HO⟩
  ihave HG' := (Fam_step (P := gP m c) (P' := gP' c) (⟨t.val, ht⟩ : Fin 32)) $$ HG
  icases HG' with ⟨Hg, HG⟩
  unfold gP gD yA' zB'
  icases Hg with ⟨⟨Ha0, Ha2⟩, Hc0, Hc2, Hr, Hv1⟩
  iapply (wp_dwait_slot m K eM 0 (⟨t.val, ht⟩ : Fin 32) (a := 32) (b := 32) (by rw [lv_d]; show 0 < 66; decide) (by rw [lv_d]; show 0 < 67; decide)
    (ys_eq (k0_off23_eq t) _) (slot_eq eM (k0_off24_eq t) _) (credit_e _)) $$ [Ha0 Hc0 HO]
  · isplitr; · iexact HR
    isplitr; · iexact Hlev
    isplitl [Ha0]; · iexact Ha0
    isplitl [Hc0] <;> iassumption
  iintro ⟨Hp0, Hv0, HO⟩
  iapply (wp_dwait_slot m K r1M 2 (⟨t.val, ht⟩ : Fin 32) (a := 32) (b := 32) (by rw [lv_d]; show 0 < 66; decide) (by rw [lv_d]; show 0 < 67; decide)
    (zs_eq (k0_off23_eq t) _) (slot_eq r1M (k0_off24_eq t) _) (credit_r1 _)) $$ [Ha2 Hc2 HO]
  · isplitr; · iexact HR
    isplitr; · iexact Hlev
    isplitl [Ha2]; · iexact Ha2
    isplitl [Hc2] <;> iassumption
  iintro ⟨Hp2, Hv2, HO⟩
  iapply (wp_done (c := c))
  isplitr; · iexact HR
  isplitr; · iexact Hlev
  isplitl [HG Hp0 Hp2 Hr Hv0 Hv1 Hv2]
  · iapply HG
    unfold gP'
    isplitl [Hp0]
    · iexists _
      iapply (show dPay m c (0 : Fin 4).val (⟨t.val, ht⟩ : Fin 32) ⊢ eP c ⟨t.val, ht⟩ (eAll m c) from Entails.of_eq rfl)
      iexact Hp0
    isplitl [Hp2 Hr]
    · iexists _
      ihave Hl := (show dPay m c (2 : Fin 4).val (⟨t.val, ht⟩ : Fin 32) ⊢ r1P c ⟨t.val, ht⟩ fullShare.left (eAll m (yn c)) from Entails.of_eq rfl) $$ Hp2
      iapply (show iprop(r1P c ⟨t.val, ht⟩ fullShare.left (eAll m (yn c)) ∗ r1P c ⟨t.val, ht⟩ fullShare.right (eAll m (yn c))) ⊢ r1P c ⟨t.val, ht⟩ fullShare (eAll m (yn c))
        from (pointsTo_share (PosShare.mem_left_op_right fullShare)).2)
      isplitl [Hl] <;> iassumption
    isplitl [Hv0]; · iexact Hv0
    isplitl [Hv1] <;> iassumption
  iexact HO

end Cert.DwProof

end
-- ==== Proof.Body.lean ====
/-
The kernel's body on one device, from what the launch gives it to what it leaves.
-/
module

public import proofs.«01_k».proof.Proof.Pieces

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : KI → ℕ)

/-- Block `i` before the barrier: its slot of the first exchanged array, and the duties of its copy across `y`; -/
def yS (c : Dev nD) (i : Fin 32) : sProp 𝕄 :=
  iprop((∃ f, eP c i f) ∗ dutyTok ER (dCell c 0 i) 0 false ∗ dutyTok ER (dCell (yn c) 1 i) 0 false)
/-- its receive across `y`, and the duties of its copy across `z`. -/
def zS (c : Dev nD) (i : Fin 32) : sProp 𝕄 :=
  iprop(atPos ER (dCell c 1 i) 0 ∅ 0 ∗ cred (tallyAt (dCell c 1 i) () N) ∗ dutyTok ER (dCell c 2 i) 0 false ∗ dutyTok ER (dCell (zn c) 3 i) 0 false)

/-- What a device starts the body with. -/
def Start (c : Dev nD) : sProp 𝕄 :=
  iprop(records m K ∗ levAts L lv ∗ dutyTok ER (barCell (yn c)) 0 false ∗ dutyTok ER (barCell (zn c)) 0 true
    ∗ (bigSep Finset.univ fun i : Fin 32 => iprop(∃ f, r1P c i fullShare f)) ∗ (bigSep Finset.univ fun i : Fin 32 => iprop(∃ f, r2P c i f))
    ∗ cred (tallyAt (barCell c) () 2) ∗ atPos ER (barCell c) 0 ∅ 0 ∗ OW c (O₀ c)
    ∗ bigSep Finset.univ (yS c) ∗ bigSep Finset.univ (zS c) ∗ bigSep Finset.univ (rC c) ∗ bigSep Finset.univ (gD c)
    ∗ idle c xsM 0 (xL c) (xF m c) ∗ idle c xsM 1 (xL c) (xF m c) ∗ (∃ g, halfP c ysM 0 g) ∗ (∃ g, halfP c ysM 1 g)
    ∗ (dyL c ↦[Finset.univ]{sh 0} dyF m c) ∗ (dyL c ↦[Finset.univ]{sh 1} dyF m c) ∗ xaP m c 0 ∗ dP m c 0 ∗ outI m c 0)

/-- What it ends with. -/
def End (c : Dev nD) : sProp 𝕄 :=
  iprop(OW c 0 ∗ semVal (barCell c) 0 ∗ bigSep Finset.univ (gP' c) ∗ bigSep Finset.univ (rC' m c)
    ∗ (∃ g, halfP c xsM 0 g) ∗ (∃ g, halfP c xsM 1 g) ∗ (xL c ↦[Finset.univ]{sh 0} xF m c) ∗ (xL c ↦[Finset.univ]{sh 1} xF m c)
    ∗ idle c ysM 0 (dyL c) (dyF m c) ∗ idle c ysM 1 (dyL c) (dyF m c) ∗ xaP m c 6 ∗ dP m c 32 ∗ outI m c 32)

/-- Once the neighbours have signalled, every block can be sent across `y` -/
theorem enter_y (c : Dev nD) : iprop(bigSep Finset.univ (yS c) ∗ barY c) ⊢ (Fam (yA c) (yA' c) 0 : sProp 𝕄) := by
  rw [Fam_zero]; unfold barY
  rw [← bigSep_sep']
  refine bigSep_mono fun i _ => (?_ : iprop(yS c i ∗ ∃ f, r1P (yn c) i fullShare f) ⊢ yA c i)
  unfold yA yS
  iintro ⟨⟨H1, H2, H3⟩, H4⟩
  isplitl [H1]; · iexact H1
  isplitl [H2]; · iexact H2
  isplitl [H3] <;> iassumption
/-- and passed on across `z`. -/
theorem enter_z (c : Dev nD) : iprop(bigSep Finset.univ (zS c) ∗ barZ c) ⊢ Fam (zB c) (zB' m c) 0 := by
  rw [Fam_zero]; unfold barZ
  rw [← bigSep_sep']
  refine bigSep_mono fun i _ => (?_ : iprop(zS c i ∗ ∃ f, r2P (zn c) i f) ⊢ zB c i)
  unfold zB zS
  iintro ⟨⟨H1, H2, H3, H4⟩, H5⟩
  isplitl [H1]; · iexact H1
  isplitl [H2]; · iexact H2
  isplitl [H3]; · iexact H3
  isplitl [H4] <;> iassumption
/-- Once all blocks are sent, their departures can be waited for. -/
theorem enter_g (c : Dev nD) : iprop(bigSep Finset.univ (gD c) ∗ Fam (yA c) (yA' c) 32 ∗ Fam (zB c) (zB' m c) 32) ⊢ Fam (gP m c) (gP' c) 0 := by
  rw [Fam_zero, Fam_all, Fam_all, ← bigSep_sep', ← bigSep_sep']
  exact Entails.of_eq rfl

/-- The device reads its own number. -/
theorem wp_dev {c : Dev nD} {α : Type} {Q : α → sProp (MT nD τ sig Unit (Elt F) ℕ UU ℕ)} {k : Dev nD → Prog (TpuEff nD τ sig (Elt F) Λ₀ .tc) α} :
    Wp c (k c) Q ⊢ Wp c (.op .deviceId k) Q := Entails.of_eq (wp_deviceId 𝒱₀ (c : Thread nD τ) none Set.univ).symm

abbrev body : Prog (TpuEff nD τ sig (Elt F) Λ₀ .tc) PUnit :=
  cc0_body xM (Memref.isWhole_whole _) dyM (Memref.isWhole_whole _) outM (Memref.isWhole_whole _) xsM (Memref.isWhole_whole _) xaM (Memref.isWhole_whole _)
    ysM (Memref.isWhole_whole _) eM (Memref.isWhole_whole _) dM (Memref.isWhole_whole _) r1M (Memref.isWhole_whole _) r2M (Memref.isWhole_whole _) osM (Memref.isWhole_whole _)
    cc0_scratch8 cc0_scratch9 cc0_scratch10 cc0_scratch11 cc0_scratch12 cc0_scratch13

set_option maxHeartbeats 1600000 in
/-- The body runs. -/
theorem wp_body (c : Dev nD) : Start m K c ⊢ Wp c (body (F := F)) fun _ => End m c := by
  unfold body
  rw [cc0_body_eq_skeleton]
  unfold cc0_body_skel
  simp only [k0_part4_eq_skeleton, k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton]
  unfold k0_part4_skel k0_part5_skel k0_part6_skel k0_part7_skel k0_part8_skel k0_part9_skel k0_part10_skel k0_part11_skel k0_part12_skel k0_part13_skel
    k0_part14_skel
  simp only [Prog.lift, semSignalWord, semWaitWord, Prog.bind_op, Prog.bind_ret, Prog.pure_eq_ret, Prog.bind_assoc]
  refine BIBase.Entails.trans ?_ (wp_dev (c := c))
  beta_reduce
  unfold Start
  iintro ⟨#HR, #Hlev, Ht1, Ht2, H1, H2, Hc, Hat, HO, HA, HB, HC, HG, Hx0, Hx1, Hy0, Hy1, Hs0, Hs1, Hxa, Hd, Ho⟩
  iapply (wp_barrier m K (dev1_eq c _) (dev2_eq c _) (by decide) (by decide) (by decide)) $$ [Ht1 Ht2 H1 H2 Hc Hat HO]
  · isplitr; · iexact HR
    isplitr; · iexact Hlev
    isplitl [Ht1]; · iexact Ht1
    isplitl [Ht2]; · iexact Ht2
    isplitl [H1]; · iexact H1
    isplitl [H2]; · iexact H2
    isplitl [Hc]; · iexact Hc
    isplitl [Hat] <;> iassumption
  iintro ⟨HbY, HbZ, Hbar, HO⟩
  iapply (wp_xstart m (c := c) 0 (j := 0) (by decide) (xoff1 0) (slot_half xsM rfl _) (ls_eq rfl _)) $$ Hx0
  iintro Hx0
  iapply (wp_xstart m (c := c) 1 (j := 1) (by decide) (xoff1 1) (slot_half xsM rfl _) (ls_eq rfl _)) $$ Hx1
  iintro Hx1
  iapply (wp_xblock m (c := c) 0 (j := 0) (by decide) (x := 0) (y := 0) (slot_half xsM rfl _) (ls_eq rfl _) rfl rfl (pay := k0_pay10) rfl) $$ [Hx0 Hxa HO]
  · isplitr; · iexact Hlev
    isplitl [Hx0]; · iexact Hx0
    isplitl [Hxa] <;> iassumption
  iintro ⟨Hx0, Hxa, HO⟩
  iapply (wp_xstart m (c := c) 0 (j := 2) (by decide) (xoff2 0) (slot_half xsM rfl _) (ls_eq rfl _)) $$ Hx0
  iintro Hx0
  iapply (wp_xblock m (c := c) 1 (j := 1) (by decide) (x := 0) (y := 0) (slot_half xsM rfl _) (ls_eq rfl _) rfl rfl (pay := k0_pay11) rfl) $$ [Hx1 Hxa HO]
  · isplitr; · iexact Hlev
    isplitl [Hx1]; · iexact Hx1
    isplitl [Hxa] <;> iassumption
  iintro ⟨Hx1, Hxa, HO⟩
  iapply (wp_xstart m (c := c) 1 (j := 3) (by decide) (xoff2 1) (slot_half xsM rfl _) (ls_eq rfl _)) $$ Hx1
  iintro Hx1
  iapply (wp_xblock m (c := c) 0 (j := 2) (by decide) (x := 0) (y := 0) (slot_half xsM rfl _) (ls_eq rfl _) rfl rfl (pay := fun v => k0_pay13 (k0_pay12 v)) rfl) $$ [Hx0 Hxa HO]
  · isplitr; · iexact Hlev
    isplitl [Hx0]; · iexact Hx0
    isplitl [Hxa] <;> iassumption
  iintro ⟨Hx0, Hxa, HO⟩
  iapply (wp_xstart m (c := c) 0 (j := 4) (by decide) (xoff3 0) (slot_half xsM rfl _) (ls_eq rfl _)) $$ Hx0
  iintro Hx0
  iapply (wp_xblock m (c := c) 1 (j := 3) (by decide) (x := 0) (y := 0) (slot_half xsM rfl _) (ls_eq rfl _) rfl rfl (pay := k0_pay14) rfl) $$ [Hx1 Hxa HO]
  · isplitr; · iexact Hlev
    isplitl [Hx1]; · iexact Hx1
    isplitl [Hxa] <;> iassumption
  iintro ⟨Hx1, Hxa, HO⟩
  iapply (wp_xstart m (c := c) 1 (j := 5) (by decide) (xoff3 1) (slot_half xsM rfl _) (ls_eq rfl _)) $$ Hx1
  iintro Hx1
  iapply (wp_xblock m (c := c) 0 (j := 4) (by decide) (x := 0) (y := 0) (slot_half xsM rfl _) (ls_eq rfl _) rfl rfl (pay := k0_pay15) rfl) $$ [Hx0 Hxa HO]
  · isplitr; · iexact Hlev
    isplitl [Hx0]; · iexact Hx0
    isplitl [Hxa] <;> iassumption
  iintro ⟨Hx0, Hxa, HO⟩
  iapply (wp_xblock m (c := c) 1 (j := 5) (by decide) (x := 0) (y := 0) (slot_half xsM rfl _) (ls_eq rfl _) rfl rfl (pay := k0_pay16) rfl) $$ [Hx1 Hxa HO]
  · isplitr; · iexact Hlev
    isplitl [Hx1]; · iexact Hx1
    isplitl [Hxa] <;> iassumption
  iintro ⟨Hx1, Hxa, HO⟩
  -- the two staging semaphores pass from the copies of `x` to those of `dy`
  unfold idle
  icases Hx0 with ⟨Hx0, Hv0, Hxs0⟩
  icases Hx1 with ⟨Hx1, Hv1, Hxs1⟩
  ihave Hy0 := (show iprop((∃ g, halfP c ysM 0 g) ∗ semVal ((c : Thread nD τ), .dma (ls 0)) 0 ∗ (dyL c ↦[Finset.univ]{sh 0} dyF m c))
    ⊢ idle c ysM (par 0) (dyL c) (dyF m c) from Entails.of_eq rfl) $$ [Hy0 Hv0 Hs0]
  · isplitl [Hy0]; · iexact Hy0
    isplitl [Hv0] <;> iassumption
  ihave Hy1 := (show iprop((∃ g, halfP c ysM 1 g) ∗ semVal ((c : Thread nD τ), .dma (ls 1)) 0 ∗ (dyL c ↦[Finset.univ]{sh 1} dyF m c))
    ⊢ idle c ysM 1 (dyL c) (dyF m c) from Entails.of_eq rfl) $$ [Hy1 Hv1 Hs1]
  · isplitl [Hy1]; · iexact Hy1
    isplitl [Hv1] <;> iassumption
  iapply (wp_dystart m (c := c) (t := 0) (off := ![0, 0]) (by decide) rfl (slot_half ysM (off := ![0, 0, 0]) rfl _) (ls_eq (off := ![0]) rfl _)) $$ Hy0
  iintro Hy0
  -- the neighbours' slots join the blocks' resources
  ihave HA := (show iprop(bigSep Finset.univ (yS c) ∗ barY c) ⊢ Fam (yA c) (yA' c) 0 from (enter_y c)) $$ [HA HbY]
  · isplitl [HA] <;> iassumption
  ihave HB := (enter_z m c) $$ [HB HbZ]
  · isplitl [HB] <;> iassumption
  ihave HC := (Entails.of_eq (Fam_zero (rC c) (rC' m c)).symm) $$ HC
  iapply (Scf.wp_for_bind frame (wpE (defs₀ (F := F)) 𝒱₀ (c : Thread nD τ) none) Set.univ k0_t1_loop.lb k0_t1_loop.ub k0_t1_loop.st k0_t1_ok PUnit.unit
    (tripBody c _ _ _ _ _) (fun t _ => Inv m K c t) (fun t _ => wp_trip m K t _ _ _ _ _)) $$ [HA HB HC HO Hxa Hd Hy0 Hy1 Ho]
  · unfold Inv
    isplitr; · iexact HR
    isplitr; · iexact Hlev
    isplitl [HA]; · iexact HA
    isplitl [HB]; · iexact HB
    isplitl [HC]; · iexact HC
    isplitl [HO]; · iexact HO
    isplitl [Hxa]; · iexact Hxa
    isplitl [Hd]; · iexact Hd
    isplitl [Hy0]
    · iapply (Entails.of_eq (show busy c ysM (par 0) (dycols m c 0) (dyL c) (dyF m c) = dyS m c 0 from (if_pos (by decide)).symm)); iexact Hy0
    isplitl [Hy1]; · iexact Hy1
    iapply (Entails.of_eq (show outI m c 0 = outS m c 0 from (if_pos (by decide)).symm)); iexact Ho
  iintro %acc HI
  rw [show Scf.trips k0_t1_loop.lb k0_t1_loop.ub k0_t1_loop.st = 32 by decide +kernel]
  unfold Inv
  icases HI with ⟨-, -, HA, HB, HC, HO, Hxa, Hd, Hy0, Hy1, Ho⟩
  ihave Hy0 := (Entails.of_eq (show dyS m c 32 = idle c ysM 0 (dyL c) (dyF m c) from if_neg (by decide))) $$ Hy0
  ihave Ho := (Entails.of_eq (show outS m c 32 = outB m c 28 from if_neg (by decide))) $$ Ho
  iapply (wp_pass m K (30 : Fin 32) (a := 32) (b := 30) (by decide) rfl (yr_eq (i := 30) rfl _)
    (slot_eq r1M (i := 30) rfl _) (dev5_eq c _) (slot_eq r1M (i := 30) rfl _) (slot_eq r2M (i := 30) rfl _) (zs_eq (i := 30) rfl _) (zr_eq (i := 30) rfl _)) $$ [HB HO]
  · isplitr; · iexact HR
    isplitr; · iexact Hlev
    isplitl [HB] <;> iassumption
  iintro ⟨HB, HO⟩
  iapply (wp_pass m K (31 : Fin 32) (a := 32) (b := 31) (by decide) rfl (yr_eq (i := 31) rfl _)
    (slot_eq r1M (i := 31) rfl _) (dev6_eq c _) (slot_eq r1M (i := 31) rfl _) (slot_eq r2M (i := 31) rfl _) (zs_eq (i := 31) rfl _) (zr_eq (i := 31) rfl _)) $$ [HB HO]
  · isplitr; · iexact HR
    isplitr; · iexact Hlev
    isplitl [HB] <;> iassumption
  iintro ⟨HB, HO⟩
  iapply (wp_tile m K (⟨28, by decide⟩ : Fin 32) (zr_eq (i := ⟨28, by decide⟩) rfl _) (slot_eq r2M (i := ⟨28, by decide⟩) rfl _) rfl rfl os_eq (P := k0_pay21 (v137 c)) (R := k0_pay22 (v137 c)) rfl rfl)
    $$ [HB HC Hd Ho HO]
  · isplitr; · iexact HR
    isplitr; · iexact Hlev
    isplitl [HB]; · iexact HB
    isplitl [HC]; · iexact HC
    isplitl [Hd]; · iexact Hd
    isplitl [Ho] <;> iassumption
  iintro ⟨HB, HC, Hd, Ho, HO⟩
  iapply (wp_tile m K (⟨29, by decide⟩ : Fin 32) (zr_eq (i := ⟨29, by decide⟩) rfl _) (slot_eq r2M (i := ⟨29, by decide⟩) rfl _) rfl rfl os_eq (P := k0_pay26 (v137 c)) (R := k0_pay27 (v137 c)) rfl rfl)
    $$ [HB HC Hd Ho HO]
  · isplitr; · iexact HR
    isplitr; · iexact Hlev
    isplitl [HB]; · iexact HB
    isplitl [HC]; · iexact HC
    isplitl [Hd]; · iexact Hd
    isplitl [Ho] <;> iassumption
  iintro ⟨HB, HC, Hd, Ho, HO⟩
  iapply (wp_tile m K (⟨30, by decide⟩ : Fin 32) (zr_eq (i := ⟨30, by decide⟩) rfl _) (slot_eq r2M (i := ⟨30, by decide⟩) rfl _) rfl rfl os_eq (P := k0_pay31 (v137 c)) (R := fun d a b => k0_pay33 (k0_pay32 (v137 c) d a b)) rfl rfl)
    $$ [HB HC Hd Ho HO]
  · isplitr; · iexact HR
    isplitr; · iexact Hlev
    isplitl [HB]; · iexact HB
    isplitl [HC]; · iexact HC
    isplitl [Hd]; · iexact Hd
    isplitl [Ho] <;> iassumption
  iintro ⟨HB, HC, Hd, Ho, HO⟩
  iapply (wp_tile m K (⟨31, by decide⟩ : Fin 32) (zr_eq (i := ⟨31, by decide⟩) rfl _) (slot_eq r2M (i := ⟨31, by decide⟩) rfl _) rfl rfl os_eq (P := k0_pay37 (v137 c)) (R := fun d a b => k0_pay1 (v137 c) (k0_pay34 d) (k0_pay35 a) (k0_pay36 b)) rfl rfl)
    $$ [HB HC Hd Ho HO]
  · isplitr; · iexact HR
    isplitr; · iexact Hlev
    isplitl [HB]; · iexact HB
    isplitl [HC]; · iexact HC
    isplitl [Hd]; · iexact Hd
    isplitl [Ho] <;> iassumption
  iintro ⟨HB, HC, Hd, Ho, HO⟩
  iapply (wp_outwait m (c := c) (n := 32) (x := 32) (y := 32) os_eq) $$ [Ho HO]
  · isplitr; · iexact Hlev
    isplitl [Ho] <;> iassumption
  iintro ⟨Ho, HO⟩
  ihave HG := (enter_g m c) $$ [HG HA HB]
  · isplitl [HG]; · iexact HG
    isplitl [HA] <;> iassumption
  iapply (Scf.wp_for_bind frame (wpE (defs₀ (F := F)) 𝒱₀ (c : Thread nD τ) none) Set.univ k0_t2_loop.lb k0_t2_loop.ub k0_t2_loop.st k0_t2_ok PUnit.unit
    (drainBody) (fun t _ => DInv m K c t) (fun t _ => wp_drain m K c t)) $$ [HG HO]
  · unfold DInv
    isplitr; · iexact HR
    isplitr; · iexact Hlev
    isplitl [HG] <;> iassumption
  iintro %acc HI
  rw [show Scf.trips k0_t2_loop.lb k0_t2_loop.ub k0_t2_loop.st = 32 by decide +kernel]
  unfold DInv
  icases HI with ⟨-, -, HG, HO⟩
  rw [owed_all]
  ihave HG := (Entails.of_eq (Fam_all (gP m c) (gP' c))) $$ HG
  ihave HC := (Entails.of_eq (Fam_all (rC c) (rC' m c))) $$ HC
  iapply (wp_done (c := c))
  unfold End
  isplitl [HO]; · iexact HO
  isplitl [Hbar]; · iexact Hbar
  isplitl [HG]; · iexact HG
  isplitl [HC]; · iexact HC
  isplitl [Hx0]; · iexact Hx0
  isplitl [Hx1]; · iexact Hx1
  isplitl [Hxs0]; · iexact Hxs0
  isplitl [Hxs1]; · iexact Hxs1
  isplitl [Hy0]; · iexact Hy0
  isplitl [Hy1]; · iexact Hy1
  isplitl [Hxa]; · iexact Hxa
  isplitl [Hd] <;> iassumption

end Cert.DwProof

end
-- ==== Proof.Ghost.lean ====
/-
What the launch deals: every cell's invariant, and to each device its positions, the tokens of the duties it pays, and the
credit of what the others owe it.
-/
module

public import proofs.«01_k».proof.Proof.Body

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells -/

theorem fam_option {I : Type} [Fintype I] [DecidableEq I] (Φ : Option I → sProp 𝕄) :
    bigSep Finset.univ Φ = iprop(Φ none ∗ bigSep Finset.univ fun i : I => Φ (some i)) := by
  have h : (Finset.univ : Finset (Option I)).erase none = Finset.univ.map Function.Embedding.some := by
    ext x; cases x <;> simp
  rw [bigSep_univ_at _ (none : Option I), h, bigSep_map]; rfl

theorem fam_four (Φ : Fin 4 × Fin 32 → sProp 𝕄) :
    bigSep Finset.univ Φ = iprop((bigSep Finset.univ fun i : Fin 32 => Φ (0, i)) ∗ (bigSep Finset.univ fun i : Fin 32 => Φ (1, i))
      ∗ (bigSep Finset.univ fun i : Fin 32 => Φ (2, i)) ∗ (bigSep Finset.univ fun i : Fin 32 => Φ (3, i))) := by
  rw [bigSep_univ_prod, bigSep_univ_eq_bigSepL [0, 1, 2, 3] (by decide) (by decide)]; rfl

theorem ds_inj {k k' : Fin 4} {i i' : Fin 32} (h : ds k i = ds k' i') : (k, i) = (k', i') := by
  have hv : 3 + 32 * k.val + i.val = 3 + 32 * k'.val + i'.val := congrArg Fin.val h
  exact Prod.ext (Fin.ext (by show k.val = k'.val; omega)) (Fin.ext (by show i.val = i'.val; omega))

theorem kcell_injective : Function.Injective (kcell : KI → GSem nD τ sig) := by
  rintro ⟨c, x⟩ ⟨c', x'⟩ h
  have hc : c = c' := by
    have := congrArg (fun g : GSem nD τ sig => g.1.1) h
    rcases x with _ | ⟨k, i⟩ <;> rcases x' with _ | ⟨k', i'⟩ <;> exact this
  subst hc
  have hs := congrArg Prod.snd h
  rcases x with _ | ⟨k, i⟩ <;> rcases x' with _ | ⟨k', i'⟩
  · rfl
  · cases hs
  · cases hs
  · rw [ds_inj (SemLoc.dma.inj hs)]

/-! ## The tokens -/

/-- A device's own cells' duties: its barrier's two, and its DMA semaphores'. -/
abbrev TI : Type := Dev nD × (Bool ⊕ (Fin 4 × Fin 32))
abbrev tokOf (x : TI) : GSem nD τ sig × ℕ × Bool := match x.2 with
  | .inl b => (barCell x.1, 0, b)
  | .inr (k, i) => (dCell x.1 k i, 0, false)

theorem tokOf_injective : Function.Injective (tokOf : TI → GSem nD τ sig × ℕ × Bool) := by
  rintro ⟨c, x⟩ ⟨c', x'⟩ h
  have hc : c = c' := by
    have := congrArg (fun g : GSem nD τ sig × ℕ × Bool => g.1.1.1) h
    rcases x with b | ⟨k, i⟩ <;> rcases x' with b' | ⟨k', i'⟩ <;> exact this
  subst hc
  have hs := congrArg (fun g : GSem nD τ sig × ℕ × Bool => g.1.2) h
  have hb := congrArg (fun g : GSem nD τ sig × ℕ × Bool => g.2.2) h
  rcases x with b | ⟨k, i⟩ <;> rcases x' with b' | ⟨k', i'⟩
  · rw [show b = b' from hb]
  · cases hs
  · cases hs
  · rw [ds_inj (SemLoc.dma.inj hs)]

def allCells : Finset (GSem nD τ sig) := Finset.univ.map ⟨kcell, kcell_injective⟩
def allToks : Finset (GSem nD τ sig × ℕ × Bool) := Finset.univ.map ⟨tokOf, tokOf_injective⟩

/-- The element of the resource algebra the launch starts from. -/
def u₀ : UU := (initOf (Pipeline.cells cfgs cellOf_inj) (Pipeline.launchToks cfgs cellOf_inj), (initOf allCells allToks, 1))

theorem u₀_split : (ownU u₀ : sProp 𝕄)
    ⊢ iprop(BI.own (EP (initOf (Pipeline.cells cfgs cellOf_inj) (Pipeline.launchToks cfgs cellOf_inj))) ∗ BI.own (ER (initOf allCells allToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf allCells allToks, (1 : Counters)))))

/-- The duties of the cells of kind `k` of device `c`. -/
def dToks (c : Dev nD) (k : Fin 4) : sProp 𝕄 := bigSep Finset.univ fun i : Fin 32 => dutyTok ER (dCell c k i) 0 false

/-- The duties of device `c`'s own cells; -/
def toks (c : Dev nD) : sProp 𝕄 :=
  iprop(dutyTok ER (barCell c) 0 false ∗ dutyTok ER (barCell c) 0 true ∗ dToks c 0 ∗ dToks c 1 ∗ dToks c 2 ∗ dToks c 3)
/-- the duties it pays: those of its own send semaphores, the others across `y` and across `z`. -/
def payToks (c : Dev nD) : sProp 𝕄 :=
  iprop(dutyTok ER (barCell (yn c)) 0 false ∗ dutyTok ER (barCell (zn c)) 0 true ∗ dToks c 0 ∗ dToks (yn c) 1 ∗ dToks c 2 ∗ dToks (zn c) 3)

theorem toks_deal : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv yEquiv (fun c : Dev nD => (dutyTok ER (barCell c) 0 false : sProp 𝕄)),
    bigSep_univ_equiv zEquiv (fun c : Dev nD => (dutyTok ER (barCell c) 0 true : sProp 𝕄)),
    bigSep_univ_equiv yEquiv (fun c : Dev nD => (dToks c 1 : sProp 𝕄)),
    bigSep_univ_equiv zEquiv (fun c : Dev nD => (dToks c 3 : sProp 𝕄))]
  exact Entails.refl _

/-! ## What each device is dealt -/

/-- Device `c`'s cells at their first round, its positions and its cells' duties; -/
def G (c : Dev nD) : sProp 𝕄 :=
  iprop((bigSep Finset.univ fun k : Option (Fin 4 × Fin 32) => roundState ER (Rd m) (kcell (c, k)) 0)
    ∗ (bigSep Finset.univ fun k : Option (Fin 4 × Fin 32) => atPos ER (kcell (c, k)) 0 ∅ 0)
    ∗ (bigSep Finset.univ fun k : Option (Fin 4 × Fin 32) => reached ER (kcell (c, k)) 0) ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option (Fin 4 × Fin 32) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks dToks
    rw [BI.bigSep_univ_sum, fam_four, bigSep_univ_eq_bigSepL [false, true] (by decide) (by decide), bigSepL_cons_cons, bigSepL_singleton]
    exact equiv_iff.mp ⟨BI.sep_assoc, BI.sep_assoc'⟩
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  simp only [bigSep_sep']
  isplitl [Hst']; · iexact Hst'
  isplitl [Hat']; · iexact Hat'
  isplitl [Hr'] <;> iassumption

/-! ## The kernel's semaphores -/

/-- The semaphores scoped to the launch: the three of the local copies, and the exchange's. -/
abbrev osem : Fin 3 ⊕ (Fin 4 × Fin 32) → SemLoc sig
  | .inl j => .dma ⟨j.val, by show _ < 131; omega⟩
  | .inr (k, i) => .dma (ds k i)

theorem ownSemFacts : Pipeline.OwnSemFacts cfg0.spec osem where
  isScoped k := by
    rcases k with j | ⟨k, i⟩
    · revert j; decide
    · revert k i; decide +kernel
  inj := by
    rintro (j | ⟨k, i⟩) (j' | ⟨k', i'⟩) h
    · have hv : j.val = j'.val := Fin.mk.inj (SemLoc.dma.inj h)
      rw [Fin.ext hv]
    · have hv : j.val = 3 + 32 * k'.val + i'.val := congrArg Fin.val (SemLoc.dma.inj h)
      omega
    · have hv : 3 + 32 * k.val + i.val = j'.val := congrArg Fin.val (SemLoc.dma.inj h)
      omega
    · rw [ds_inj (SemLoc.dma.inj h)]
  disj := fun _ w => w.elim0

/-- The three semaphores of the local copies, at zero; -/
def locals (c : Dev nD) : sProp 𝕄 :=
  iprop(semVal ((c : Thread nD τ), .dma (ls 0)) 0 ∗ semVal ((c : Thread nD τ), .dma (ls 1)) 0 ∗ semVal ((c : Thread nD τ), .dma os) 0)
/-- the exchange's of kind `k`. -/
def dZeros (c : Dev nD) (k : Fin 4) : sProp 𝕄 := bigSep Finset.univ fun i : Fin 32 => semVal (dCell c k i) 0

theorem ownSems0_eq (c : Dev nD) : (Pipeline.ownSems0 (Ix := Unit) (Name := ℕ) (U := UU) (Lvl := ℕ) (Val := Elt F) (τ := τ) osem c : sProp 𝕄)
    = iprop(locals c ∗ dZeros c 0 ∗ dZeros c 1 ∗ dZeros c 2 ∗ dZeros c 3) := by
  unfold Pipeline.ownSems0 locals dZeros
  rw [BI.bigSep_univ_sum, fam_four, bigSep_univ_eq_bigSepL [0, 1, 2] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells_zero (c : Dev nD) : (bigSep Finset.univ fun k : Option (Fin 4 × Fin 32) => semVal (kcell (c, k)) 0 : sProp 𝕄)
    = iprop(semVal (barCell c) 0 ∗ dZeros c 0 ∗ dZeros c 1 ∗ dZeros c 2 ∗ dZeros c 3) := by
  rw [fam_option, fam_four]; rfl

/-! ## The invariants allocated -/

/-- What stays with device `c`. -/
def dealt (c : Dev nD) : sProp 𝕄 :=
  iprop(locals c ∗ (bigSep Finset.univ fun k : Option (Fin 4 × Fin 32) => atPos ER (kcell (c, k)) 0 ∅ 0) ∗ payToks c)
/-- After the global step a device has that, and all the records. -/
def G' (c : Dev nD) : sProp 𝕄 := iprop(∃ K, records m K ∗ dealt c)

theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (Fin 4 × Fin 32) => iprop(∃ κ : ℕ, cellInv ER (Rd m) κ (kcell (c, k))))
          ∗ (bigSep Finset.univ fun k : Option (Fin 4 × Fin 32) => reached ER (kcell (c, k)) 0)
          ∗ locals c ∗ (bigSep Finset.univ fun k : Option (Fin 4 × Fin 32) => atPos ER (kcell (c, k)) 0 ∅ 0) ∗ toks c) := by
  rw [ownSems0_eq, unscopedSems0_eq]
  unfold G
  iintro ⟨⟨Hl, H4⟩, Hb, Hst, Hat, Hr, Htok⟩
  imod (show iprop((bigSep Finset.univ fun k : Option (Fin 4 × Fin 32) => semVal (kcell (c, k)) 0)
        ∗ bigSep Finset.univ fun k : Option (Fin 4 × Fin 32) => roundState ER (Rd m) (kcell (c, k)) 0)
      ⊢ (|={Set.univ}=> bigSep Finset.univ fun k : Option (Fin 4 × Fin 32) => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hb H4 Hst] with Hinv
  · isplitr [Hst]
    · iapply (Entails.of_eq (cells_zero (F := F) c).symm)
      isplitl [Hb] <;> iassumption
    iexact Hst
  imodintro
  isplitl [Hinv]; · iexact Hinv
  isplitl [Hr]; · iexact Hr
  isplitl [Hl]; · iexact Hl
  isplitl [Hat] <;> iassumption

theorem fam_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option (Fin 4 × Fin 32) => iprop(∃ κ : ℕ, cellInv ER (Rd m) κ (kcell (c, k))))
          ∗ (bigSep Finset.univ fun k : Option (Fin 4 × Fin 32) => reached ER (kcell (c, k)) 0)
          ∗ locals c ∗ (bigSep Finset.univ fun k : Option (Fin 4 × Fin 32) => atPos ER (kcell (c, k)) 0 ∅ 0) ∗ toks c) : sProp 𝕄)
      ⊢ bigSep Finset.univ (G' m) := by
  rw [bigSep_sep', bigSep_sep', bigSep_sep', bigSep_sep',
    ← bigSep_univ_prod (fun x : KI => iprop(∃ κ : ℕ, cellInv ER (Rd m) κ (kcell x))),
    ← bigSep_univ_prod (fun x : KI => (reached ER (kcell x) 0 : sProp 𝕄))]
  iintro ⟨HI, #HR, Hl, Hat, Htok⟩
  ihave HK := (BI.bigSep_exists_pi Finset.univ (fun (x : KI) (κ : ℕ) => (cellInv ER (Rd m) κ (kcell x) : sProp 𝕄))) $$ HI
  icases HK with ⟨%K, #HI⟩
  ihave Htk := (toks_deal (F := F)) $$ Htok
  iapply (fam_with (R := records m K) (Φ := dealt) (Ψ := G' m) fun c _ => by unfold G'; iintro H; iexists K; iexact H)
  isplitr
  · unfold records
    isplitl; · iexact HI
    iexact HR
  unfold dealt
  rw [bigSep_sep', bigSep_sep']
  isplitl [Hl]; · iexact Hl
  isplitl [Hat] <;> iassumption

/-- The global step: every device's semaphores become cells, and the tokens change hands. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (regroup m))

/-! ## The launch credit -/

/-- A family of debts, read at one of its cells and elsewhere. -/
theorem tally_at {X : Type} [Fintype X] (f : X → GSem nD τ sig) (hf : Function.Injective f) (n : ℕ) (x : X) :
    ∑ y : X, tallyAt (f y) () n (f x) () = n := by
  classical
  rw [Finset.sum_eq_single x (fun y _ h => by rw [tallyAt_apply, if_neg fun h' => h (hf h'.1).symm]) (fun h => absurd (Finset.mem_univ x) h),
    tallyAt_apply, if_pos ⟨rfl, rfl⟩]
theorem tally_off {X : Type} [Fintype X] (f : X → GSem nD τ sig) (n : ℕ) {g : GSem nD τ sig} (h : ∀ x, f x ≠ g) :
    ∑ y : X, tallyAt (f y) () n g () = 0 :=
  Finset.sum_eq_zero fun y _ => by rw [tallyAt_apply, if_neg fun h' => h y h'.1.symm]

theorem sum_yn (T : Dev nD → ℕ) : ∑ d : Dev nD, T (yn d) = ∑ d : Dev nD, T d := Equiv.sum_comp yEquiv T
theorem sum_zn (T : Dev nD → ℕ) : ∑ d : Dev nD, T (zn d) = ∑ d : Dev nD, T d := Equiv.sum_comp zEquiv T

/-- What all the devices owe a cell. -/
theorem owed_sum (g : GSem nD τ sig) : ∑ d : Dev nD, O₀ d g ()
    = ((∑ p : Dev nD × Fin 32, tallyAt (dCell p.1 1 p.2) () N g ()) + ∑ p : Dev nD × Fin 32, tallyAt (dCell p.1 3 p.2) () N g ())
      + (∑ d : Dev nD, tallyAt (barCell d) () 1 g ()) + ∑ d : Dev nD, tallyAt (barCell d) () 1 g () := by
  have hf : Finset.univ.filter (fun j : Fin 32 => 0 ≤ j.val) = Finset.univ := Finset.filter_true_of_mem fun i _ => Nat.zero_le _
  have h (d : Dev nD) : O₀ d g () = ((∑ i : Fin 32, tallyAt (dCell (yn d) 1 i) () N g ()) + ∑ i : Fin 32, tallyAt (dCell (zn d) 3 i) () N g ())
      + tallyAt (barCell (zn d)) () 1 g () + tallyAt (barCell (yn d)) () 1 g () := by
    unfold O₀ O₁ owed oY oZ
    rw [hf]
    simp only [Pi.add_apply, Finsupp.add_apply, Finset.sum_apply, Finsupp.finset_sum_apply]
  rw [Finset.sum_congr rfl fun d _ => h d, Finset.sum_add_distrib, Finset.sum_add_distrib, Finset.sum_add_distrib,
    sum_yn (fun d : Dev nD => ∑ i : Fin 32, tallyAt (dCell d 1 i) () N g ()),
    sum_zn (fun d : Dev nD => ∑ i : Fin 32, tallyAt (dCell d 3 i) () N g ()),
    sum_zn (fun d : Dev nD => tallyAt (barCell d) () 1 g ()),
    sum_yn (fun d : Dev nD => tallyAt (barCell d) () 1 g ()), Fintype.sum_prod_type, Fintype.sum_prod_type]

theorem bar_inj : Function.Injective (barCell : Dev nD → GSem nD τ sig) := fun a b h => congrArg (fun g : GSem nD τ sig => g.1.1) h
theorem dCell_eq {c c' : Dev nD} {k k' : Fin 4} {i i' : Fin 32} (h : dCell c k i = dCell c' k' i') : c = c' ∧ (k, i) = (k', i') :=
  ⟨congrArg (fun g : GSem nD τ sig => g.1.1) h, ds_inj (SemLoc.dma.inj (congrArg Prod.snd h))⟩
theorem dCell_inj (k : Fin 4) : Function.Injective (fun p : Dev nD × Fin 32 => dCell p.1 k p.2) := fun a b h =>
  Prod.ext (dCell_eq h).1 (Prod.mk.inj (dCell_eq h).2).2
theorem dCell_ne {c c' : Dev nD} {k k' : Fin 4} {i i' : Fin 32} (h : k ≠ k') : dCell c k i ≠ dCell c' k' i' := fun e => h (congrArg Prod.fst (dCell_eq e).2)
theorem bar_ne_d (c c' : Dev nD) (k : Fin 4) (i : Fin 32) : barCell c ≠ dCell c' k i := fun h => by cases congrArg Prod.snd h

theorem owed_bar (c : Dev nD) : ∑ d : Dev nD, O₀ d (barCell c) () = 2 := by
  rw [owed_sum, tally_off (fun p : Dev nD × Fin 32 => dCell p.1 1 p.2) N fun p => (bar_ne_d _ _ _ _).symm,
    tally_off (fun p : Dev nD × Fin 32 => dCell p.1 3 p.2) N fun p => (bar_ne_d _ _ _ _).symm, tally_at barCell bar_inj]
theorem owed_d1 (c : Dev nD) (i : Fin 32) : ∑ d : Dev nD, O₀ d (dCell c 1 i) () = N := by
  rw [owed_sum, tally_at (fun p : Dev nD × Fin 32 => dCell p.1 1 p.2) (dCell_inj 1) N (c, i),
    tally_off (fun p : Dev nD × Fin 32 => dCell p.1 3 p.2) N fun p => dCell_ne (by decide), tally_off barCell 1 fun d => bar_ne_d _ _ _ _, Nat.add_zero]
theorem owed_d3 (c : Dev nD) (i : Fin 32) : ∑ d : Dev nD, O₀ d (dCell c 3 i) () = N := by
  rw [owed_sum, tally_at (fun p : Dev nD × Fin 32 => dCell p.1 3 p.2) (dCell_inj 3) N (c, i),
    tally_off (fun p : Dev nD × Fin 32 => dCell p.1 1 p.2) N fun p => dCell_ne (by decide), tally_off barCell 1 fun d => bar_ne_d _ _ _ _, Nat.zero_add, Nat.add_zero]

theorem credit_of {g : GSem nD τ sig} {n : ℕ} (hg : g.1.2 = .tc) (h : ∑ d : Dev nD, O₀ d g () = n) :
    tallyOn g (launchCredit (Pipeline.owing O₀) 0 g) = (tallyAt g () n : CellTallies nD τ sig Unit) := by
  obtain ⟨⟨d, p⟩, sm⟩ := g
  subst hg
  unfold tallyAt; refine congrArg _ (Finsupp.ext fun u => ?_); cases u
  rw [Pipeline.launchCredit_owing, Finsupp.single_eq_same]
  exact h

/-- The cells of a device that the others owe. -/
abbrev credSem : Option (Fin 2 × Fin 32) → SemLoc sig
  | none => .reg barS
  | some (j, i) => .dma (ds (if j = 0 then 1 else 3) i)
theorem credSem_inj : Function.Injective credSem := by
  rintro (_ | ⟨j, i⟩) (_ | ⟨j', i'⟩) h
  · rfl
  · cases h
  · cases h
  · have e := ds_inj (SemLoc.dma.inj h)
    have hj : j = j' :=
      (show ∀ j j' : Fin 2, (if j = 0 then (1 : Fin 4) else 3) = (if j' = 0 then 1 else 3) → j = j' by decide) j j' (congrArg Prod.fst e)
    have hi : i = i' := congrArg Prod.snd e
    rw [hj, hi]

theorem creds (c : Dev nD) : (Pipeline.launchCred O₀ c : sProp 𝕄)
    ⊢ iprop(cred (tallyAt (barCell c) () 2) ∗ (bigSep Finset.univ fun i : Fin 32 => cred (tallyAt (dCell c 1 i) () N))
        ∗ bigSep Finset.univ fun i : Fin 32 => cred (tallyAt (dCell c 3 i) () N)) := by
  unfold Pipeline.launchCred
  refine (BI.bigSep_subset (Finset.subset_univ (Finset.univ.map ⟨credSem, credSem_inj⟩))).trans ?_
  rw [bigSep_map, fam_option, bigSep_univ_prod, bigSep_univ_two]
  exact BI.sep_mono (Entails.of_eq (congrArg cred (credit_of rfl (owed_bar c))))
    (BI.sep_mono (bigSep_mono fun i _ => Entails.of_eq (congrArg cred (credit_of (g := dCell c 1 i) rfl (owed_d1 c i))))
      (bigSep_mono fun i _ => Entails.of_eq (congrArg cred (credit_of (g := dCell c 3 i) rfl (owed_d3 c i)))))

end Cert.DwProof

end
-- ==== Proof.Buffers.lean ====
/-
The scratch buffers and the arguments cut into the parts the body works on, and put together again.
-/
module

public import proofs.«01_k».proof.Proof.Ghost

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Cutting a buffer and putting it together -/

theorem fam_mono {I : Type} [Fintype I] [DecidableEq I] {Φ Ψ : I → sProp 𝕄} (h : ∀ i, Φ i ⊢ Ψ i) : bigSep Finset.univ Φ ⊢ bigSep Finset.univ Ψ :=
  bigSep_mono fun i _ => h i

section Cut
variable {ℓ : Loc nD τ sig} {I : Type} [Fintype I] [DecidableEq I] (P : I → Finset (Idx ℓ))

theorem cover (hu : ∀ j, ∃ i, j ∈ P i) : (Finset.univ : Finset I).biUnion P = Finset.univ :=
  Finset.eq_univ_iff_forall.mpr fun j => Finset.mem_biUnion.mpr ((hu j).imp fun i h => ⟨Finset.mem_univ i, h⟩)

theorem cut (hd : ∀ i i', i ≠ i' → Disjoint (P i) (P i')) (hu : ∀ j, ∃ i, j ∈ P i) :
    (iprop(∃ f : Buf (Elt F) ℓ, ℓ ↦{fullShare} f) : sProp 𝕄) ⊢ bigSep Finset.univ fun i => iprop(∃ f : Buf (Elt F) ℓ, ℓ ↦[P i]{fullShare} f) := by
  iintro ⟨%f, H⟩
  ihave H' := (Entails.of_eq (show (ℓ ↦{fullShare} f : sProp 𝕄) = bigSep Finset.univ fun i => ℓ ↦[P i]{fullShare} f from by
    rw [← cover P hu, pointsTo_biUnion Finset.univ P fun i _ i' _ h => hd i i' h])) $$ H
  iapply (fam_mono fun i => (show (ℓ ↦[P i]{fullShare} f : sProp 𝕄) ⊢ iprop(∃ f : Buf (Elt F) ℓ, ℓ ↦[P i]{fullShare} f) from by
    iintro H; iexists f; iexact H))
  iexact H'

theorem uncut [Nonempty I] (hd : ∀ i i', i ≠ i' → Disjoint (P i) (P i')) (hu : ∀ j, ∃ i, j ∈ P i) :
    (bigSep Finset.univ fun i => iprop(∃ f : Buf (Elt F) ℓ, ℓ ↦[P i]{fullShare} f) : sProp 𝕄) ⊢ iprop(∃ f : Buf (Elt F) ℓ, ℓ ↦{fullShare} f) := by
  iintro H
  ihave H' := (BI.bigSep_exists_pi Finset.univ fun (i : I) (f : Buf (Elt F) ℓ) => (ℓ ↦[P i]{fullShare} f : sProp 𝕄)) $$ H
  icases H' with ⟨%fs, H⟩
  ihave H' := (pointsTo_biUnion_join Finset.univ P fs (fs (Classical.choice inferInstance)) fun i _ i' _ h => hd i i' h) $$ H
  icases H' with ⟨%g, -, H⟩
  iexists g
  ihave H' := (Entails.of_eq (show (ℓ ↦[(Finset.univ : Finset I).biUnion P]{fullShare} g : sProp 𝕄) = ℓ ↦{fullShare} g from by rw [cover P hu])) $$ H
  iexact H'

end Cut

/-! ## The exchanged arrays' slots -/

theorem slotR_cover (A : Fin 32 → Finset S32x512x256.Idx) (h : ∀ i, A i = (slotR i).set) (j : S32x512x256.Idx) : ∃ i, j ∈ A i :=
  ⟨j 0, (h _).symm ▸ mem_slotR.mpr rfl⟩
theorem slotR_apart (A : Fin 32 → Finset S32x512x256.Idx) (h : ∀ i, A i = (slotR i).set) (i i' : Fin 32) (hne : i ≠ i') : Disjoint (A i) (A i') := by
  rw [h, h]; exact slotR_disjoint hne

theorem e_cut (c : Dev nD) : (iprop(∃ f, ((c : Thread nD τ).loc cc0_scratch3) ↦{fullShare} f) : sProp 𝕄) ⊢ bigSep Finset.univ fun i : Fin 32 => iprop(∃ f, eP c i f) :=
  cut (ℓ := (c : Thread nD τ).loc cc0_scratch3) (fun i : Fin 32 => (slot eM i).view.set)
    (slotR_apart _ e_set) (slotR_cover _ e_set)
theorem e_uncut (c : Dev nD) : (bigSep Finset.univ fun i : Fin 32 => iprop(∃ f, eP c i f)) ⊢ (iprop(∃ f, ((c : Thread nD τ).loc cc0_scratch3) ↦{fullShare} f) : sProp 𝕄) :=
  uncut (ℓ := (c : Thread nD τ).loc cc0_scratch3) (fun i : Fin 32 => (slot eM i).view.set)
    (slotR_apart _ e_set) (slotR_cover _ e_set)
theorem r1_cut (c : Dev nD) : (iprop(∃ f, ((c : Thread nD τ).loc cc0_scratch5) ↦{fullShare} f) : sProp 𝕄) ⊢ bigSep Finset.univ fun i : Fin 32 => iprop(∃ f, r1P c i fullShare f) :=
  cut (ℓ := (c : Thread nD τ).loc cc0_scratch5) (fun i : Fin 32 => (slot r1M i).view.set)
    (slotR_apart _ r1_set) (slotR_cover _ r1_set)
theorem r1_uncut (c : Dev nD) : (bigSep Finset.univ fun i : Fin 32 => iprop(∃ f, r1P c i fullShare f)) ⊢ (iprop(∃ f, ((c : Thread nD τ).loc cc0_scratch5) ↦{fullShare} f) : sProp 𝕄) :=
  uncut (ℓ := (c : Thread nD τ).loc cc0_scratch5) (fun i : Fin 32 => (slot r1M i).view.set)
    (slotR_apart _ r1_set) (slotR_cover _ r1_set)
theorem r2_cut (c : Dev nD) : (iprop(∃ f, ((c : Thread nD τ).loc cc0_scratch6) ↦{fullShare} f) : sProp 𝕄) ⊢ bigSep Finset.univ fun i : Fin 32 => iprop(∃ f, r2P c i f) :=
  cut (ℓ := (c : Thread nD τ).loc cc0_scratch6) (fun i : Fin 32 => (slot r2M i).view.set)
    (slotR_apart _ r2_set) (slotR_cover _ r2_set)
theorem r2_uncut (c : Dev nD) : (bigSep Finset.univ fun i : Fin 32 => iprop(∃ f, r2P c i f)) ⊢ (iprop(∃ f, ((c : Thread nD τ).loc cc0_scratch6) ↦{fullShare} f) : sProp 𝕄) :=
  uncut (ℓ := (c : Thread nD τ).loc cc0_scratch6) (fun i : Fin 32 => (slot r2M i).view.set)
    (slotR_apart _ r2_set) (slotR_cover _ r2_set)

/-! ## The staging buffers' halves -/

theorem mem_halfR {s : Fin 2} {j : S2x2048x256.Idx} : j ∈ (halfR s).set ↔ (j 0).val = s.val := by
  have he (x : S1x2048x256.Idx) : (halfR s).emb x = ix3 s (x 1) (x 2) := by
    have h0 : (x 0).val = 0 := by have : (x 0).val < 1 := (x 0).isLt; omega
    funext a
    match a with
    | ⟨0, _⟩ => exact Fin.ext (show s.val + 1 * (x 0).val = s.val by omega)
    | ⟨1, _⟩ => exact Fin.ext (show 0 + 1 * (x 1).val = (x 1).val by omega)
    | ⟨2, _⟩ => exact Fin.ext (show 0 + 1 * (x 2).val = (x 2).val by omega)
  rw [← Rect.map_emb_univ]
  constructor
  · intro h
    obtain ⟨x, -, rfl⟩ := Finset.mem_map.mp h
    rw [he]
  · intro h
    refine Finset.mem_map.mpr ⟨ix3 (0 : Fin 1) (j 1) (j 2), Finset.mem_univ _, ?_⟩
    rw [he]
    refine Eq.trans ?_ (eq_ix3 (n0 := 2) (n1 := 2048) (n2 := 256) j).symm
    rw [show s = j 0 from Fin.ext h.symm]
    rfl
theorem halfR_cover (A : Fin 2 → Finset S2x2048x256.Idx) (h : ∀ s, A s = (halfR s).set) (j : S2x2048x256.Idx) : ∃ s, j ∈ A s :=
  ⟨j 0, (h _).symm ▸ mem_halfR.mpr rfl⟩
theorem halfR_apart (A : Fin 2 → Finset S2x2048x256.Idx) (h : ∀ s, A s = (halfR s).set) (s s' : Fin 2) (hne : s ≠ s') : Disjoint (A s) (A s') := by
  rw [h, h]
  exact Finset.disjoint_left.mpr fun j hj hj' => hne (Fin.ext ((mem_halfR.mp hj).symm.trans (mem_halfR.mp hj')))
theorem xs_set (s : Fin 2) : (half xsM s).view.set = (halfR s).set := (View.set_reshape _ _).trans (View.set_slice_whole _ _)
theorem ys_set (s : Fin 2) : (half ysM s).view.set = (halfR s).set := (View.set_reshape _ _).trans (View.set_slice_whole _ _)

theorem xs_cut (c : Dev nD) : (iprop(∃ f, ((c : Thread nD τ).loc cc0_scratch0) ↦{fullShare} f) : sProp 𝕄) ⊢ bigSep Finset.univ fun s : Fin 2 => iprop(∃ g, halfP c xsM s g) :=
  cut (ℓ := (c : Thread nD τ).loc cc0_scratch0) (fun s : Fin 2 => (half xsM s).view.set)
    (halfR_apart _ xs_set) (halfR_cover _ xs_set)
theorem xs_uncut (c : Dev nD) : (bigSep Finset.univ fun s : Fin 2 => iprop(∃ g, halfP c xsM s g)) ⊢ (iprop(∃ f, ((c : Thread nD τ).loc cc0_scratch0) ↦{fullShare} f) : sProp 𝕄) :=
  uncut (ℓ := (c : Thread nD τ).loc cc0_scratch0) (fun s : Fin 2 => (half xsM s).view.set)
    (halfR_apart _ xs_set) (halfR_cover _ xs_set)
theorem ys_cut (c : Dev nD) : (iprop(∃ f, ((c : Thread nD τ).loc cc0_scratch2) ↦{fullShare} f) : sProp 𝕄) ⊢ bigSep Finset.univ fun s : Fin 2 => iprop(∃ g, halfP c ysM s g) :=
  cut (ℓ := (c : Thread nD τ).loc cc0_scratch2) (fun s : Fin 2 => (half ysM s).view.set)
    (halfR_apart _ ys_set) (halfR_cover _ ys_set)
theorem ys_uncut (c : Dev nD) : (bigSep Finset.univ fun s : Fin 2 => iprop(∃ g, halfP c ysM s g)) ⊢ (iprop(∃ f, ((c : Thread nD τ).loc cc0_scratch2) ↦{fullShare} f) : sProp 𝕄) :=
  uncut (ℓ := (c : Thread nD τ).loc cc0_scratch2) (fun s : Fin 2 => (half ysM s).view.set)
    (halfR_apart _ ys_set) (halfR_cover _ ys_set)

/-! ## An argument's two shares -/

theorem shares {ℓ : Loc nD τ sig} (f : Buf (Elt F) ℓ) :
    (ℓ ↦{fullShare} f : sProp 𝕄) = iprop((ℓ ↦{sh 0} f) ∗ (ℓ ↦{sh 1} f)) :=
  equiv_iff.mp ⟨(pointsTo_share (PosShare.mem_left_op_right fullShare)).1, (pointsTo_share (PosShare.mem_left_op_right fullShare)).2⟩

/-! ## The body's start -/

/-- The three arrays of the device, the result's at `g`. -/
def arrays (c : Dev nD) (g : S1024x8192.Idx → Elt F .bf16) : sProp 𝕄 :=
  iprop((xL c ↦{fullShare} xF m c) ∗ (dyL c ↦{fullShare} dyF m c) ∗ (outM.view.loc (c : Thread nD τ) ↦{fullShare} g))

/-- What the launch gives device `c`. -/
def X (c : Dev nD) : sProp 𝕄 :=
  iprop(arrays m c (outF m c) ∗ levAts L lv
    ∗ (cred (tallyAt (barCell c) () 2) ∗ (bigSep Finset.univ fun i : Fin 32 => cred (tallyAt (dCell c 1 i) () N))
        ∗ bigSep Finset.univ fun i : Fin 32 => cred (tallyAt (dCell c 3 i) () N))
    ∗ G' m c)

theorem fam_cells (Φ : Option (Fin 4 × Fin 32) → sProp 𝕄) :
    bigSep Finset.univ Φ = iprop(Φ none ∗ (bigSep Finset.univ fun i : Fin 32 => Φ (some (0, i))) ∗ (bigSep Finset.univ fun i : Fin 32 => Φ (some (1, i)))
      ∗ (bigSep Finset.univ fun i : Fin 32 => Φ (some (2, i))) ∗ (bigSep Finset.univ fun i : Fin 32 => Φ (some (3, i)))) := by
  rw [fam_option, fam_four]

theorem enter (c : Dev nD) : iprop(X m c ∗ Pipeline.scopedRest cfg0.spec c ∗ OW c (O₀ c)) ⊢ iprop(∃ K, Start m K c) := by
  rw [scopedRest0_eq]
  unfold X arrays G' dealt payToks dToks locals
  rw [fam_cells, shares (ℓ := xL c) (xF m c), shares (ℓ := dyL c) (dyF m c)]
  iintro ⟨⟨⟨⟨Hx0, Hx1⟩, ⟨Hy0, Hy1⟩, Ho⟩, Hlev, ⟨Hc, Hc1, Hc3⟩, ⟨%K, HR, ⟨Hl0, Hl1, Hos⟩, ⟨Hab, Ha0, Ha1, Ha2, Ha3⟩, Htb, Htb', Ht0, Ht1, Ht2, Ht3⟩⟩,
    ⟨Hxs, ⟨%xa, Hxa⟩, Hys, He, ⟨%d, Hd⟩, Hr1, Hr2, Hosb⟩, HO⟩
  ihave Hxs := (xs_cut (F := F) c) $$ Hxs
  ihave Hys := (ys_cut (F := F) c) $$ Hys
  ihave He := (e_cut (F := F) c) $$ He
  ihave Hr1 := (r1_cut (F := F) c) $$ Hr1
  ihave Hr2 := (r2_cut (F := F) c) $$ Hr2
  ihave Hxs := (Entails.of_eq (bigSep_univ_two fun s : Fin 2 => iprop(∃ g, halfP (F := F) c xsM s g))) $$ Hxs
  ihave Hys := (Entails.of_eq (bigSep_univ_two fun s : Fin 2 => iprop(∃ g, halfP (F := F) c ysM s g))) $$ Hys
  icases Hxs with ⟨Hs0, Hs1⟩
  icases Hys with ⟨Hz0, Hz1⟩
  iexists K
  unfold Start idle xaP dP outI yS zS rC gD
  simp only [bigSep_sep']
  isplitl [HR]; · iexact HR
  isplitl [Hlev]; · iexact Hlev
  isplitl [Htb]; · iexact Htb
  isplitl [Htb']; · iexact Htb'
  isplitl [Hr1]; · iexact Hr1
  isplitl [Hr2]; · iexact Hr2
  isplitl [Hc]; · iexact Hc
  isplitl [Hab]; · iexact Hab
  isplitl [HO]; · iexact HO
  isplitl [He Ht0 Ht1]
  · isplitl [He]; · iexact He
    isplitl [Ht0] <;> iassumption
  isplitl [Ha1 Hc1 Ht2 Ht3]
  · isplitl [Ha1]; · iexact Ha1
    isplitl [Hc1]; · iexact Hc1
    isplitl [Ht2] <;> iassumption
  isplitl [Ha3 Hc3]
  · isplitl [Ha3] <;> iassumption
  isplitl [Ha0 Ha2]
  · isplitl [Ha0] <;> iassumption
  isplitl [Hs0 Hl0 Hx0]
  · isplitl [Hs0]; · iexact Hs0
    isplitl [Hl0] <;> iassumption
  isplitl [Hs1 Hl1 Hx1]
  · isplitl [Hs1]; · iexact Hs1
    isplitl [Hl1] <;> iassumption
  isplitl [Hz0]; · iexact Hz0
  isplitl [Hz1]; · iexact Hz1
  isplitl [Hy0]; · iexact Hy0
  isplitl [Hy1]; · iexact Hy1
  isplitl [Hxa]
  · iexists xa
    isplitr; · (ipureintro; exact ColsTo.zero _ _)
    iexact Hxa
  isplitl [Hd]
  · iexists d
    isplitr; · (ipureintro; exact ColsTo.zero _ _)
    iexact Hd
  isplitl [Ho]
  · iexists _
    isplitr
    · ipureintro; exact ColsTo.zero (C := 8192) (outBlk m c) (outF m c)
    iexact Ho
  isplitl [Hosb] <;> iassumption

/-! ## The body's end -/

/-- What the device keeps once the launch is over. -/
def Y (c : Dev nD) : sProp 𝕄 := iprop(arrays m c (outAll m c) ∗ unscopedSems0 c)

theorem leave (c : Dev nD) : End m c ⊢ iprop((Y m c ∗ Pipeline.ownSems0 osem c ∗ Pipeline.scopedRest cfg0.spec c) ∗ OW c 0) := by
  rw [scopedRest0_eq, ownSems0_eq]
  unfold Y arrays End idle xaP dP outI gP' rC' locals dZeros
  simp only [bigSep_sep']
  rw [unscopedSems0_eq, shares (ℓ := xL c) (xF m c), shares (ℓ := dyL c) (dyF m c)]
  iintro ⟨HO, Hb, ⟨He, Hr1, Hv0, Hv1, Hv2⟩, ⟨Hr2, Hv3⟩, Hs0, Hs1, Hx0, Hx1, ⟨Hz0, Hl0, Hy0⟩, ⟨Hz1, Hl1, Hy1⟩, ⟨%xa, -, Hxa⟩, ⟨%d, -, Hd⟩, ⟨%o, %ho, Ho⟩, Hosb, Hos⟩
  have ho' : o = outAll m c := ho.all (by decide)
  subst ho'
  ihave Hr2 := (fam_mono fun i => (show (r2P c i (eAll m (yn (zn c))) : sProp 𝕄) ⊢ iprop(∃ f, r2P c i f) from by iintro H; iexists _; iexact H)) $$ Hr2
  ihave He := (e_uncut (F := F) c) $$ He
  ihave Hr1 := (r1_uncut (F := F) c) $$ Hr1
  ihave Hr2 := (r2_uncut (F := F) c) $$ Hr2
  ihave Hxs := ((Entails.of_eq (bigSep_univ_two fun s : Fin 2 => iprop(∃ g, halfP (F := F) c xsM s g)).symm).trans (xs_uncut (F := F) c)) $$ [Hs0 Hs1]
  · isplitl [Hs0] <;> iassumption
  ihave Hys := ((Entails.of_eq (bigSep_univ_two fun s : Fin 2 => iprop(∃ g, halfP (F := F) c ysM s g)).symm).trans (ys_uncut (F := F) c)) $$ [Hz0 Hz1]
  · isplitl [Hz0] <;> iassumption
  isplitr [HO]
  · isplitl [Hx0 Hx1 Hy0 Hy1 Ho Hb]
    · isplitr [Hb]
      · isplitl [Hx0 Hx1]
        · isplitl [Hx0] <;> iassumption
        isplitl [Hy0 Hy1]
        · isplitl [Hy0] <;> iassumption
        iexact Ho
      iexact Hb
    isplitl [Hl0 Hl1 Hos Hv0 Hv1 Hv2 Hv3]
    · isplitl [Hl0 Hl1 Hos]
      · isplitl [Hl0]; · iexact Hl0
        isplitl [Hl1] <;> iassumption
      isplitl [Hv0]; · iexact Hv0
      isplitl [Hv1]; · iexact Hv1
      isplitl [Hv2] <;> iassumption
    isplitl [Hxs]; · iexact Hxs
    isplitl [Hxa]; · iexists xa; iexact Hxa
    isplitl [Hys]; · iexact Hys
    isplitl [He]; · iexact He
    isplitl [Hd]; · iexists d; iexact Hd
    isplitl [Hr1]; · iexact Hr1
    isplitl [Hr2]; · iexact Hr2
    iexact Hosb
  iexact HO

end Cert.DwProof

end
-- ==== Proof.Run.lean ====
/-
The launch: from any memory the kernel runs on all eight devices, the result at the value computed, the arguments unchanged,
every counter zero.
-/
module

public import proofs.«01_k».proof.Proof.Buffers
public import proofs.«01_k».proof.Proof.Gen.KernelIdeal.Points
public import Idealize.ShloMosaic.Lib.Pipeline.CollectiveSegs
public import Idealize.ShloMosaic.Lib.Quiescent

@[expose] public section

noncomputable section

namespace Cert.DwProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-- The state the launch starts from: the memory given, every counter zero. -/
def s₀ : MemSt nD τ sig (Elt F) := ⟨m, fun _ => 0, ρ⟩

/-- What a device holds going in, but for its debts. -/
def Φ₀ (c : Dev nD) : sProp 𝕄 := iprop(X m c ∗ Pipeline.scopedRest cfg0.spec c)
/-- What it holds coming out. -/
def Φ₁ (c : Dev nD) : sProp 𝕄 := iprop(Y m c ∗ Pipeline.ownSems0 osem c ∗ Pipeline.scopedRest cfg0.spec c)

/-- The launch's proof data: no windows, the one step paying all the debts. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body from what a device holds going in to what it holds coming out. -/
theorem step (c : Dev nD) : iprop(Φ₀ m c ∗ OW c (O₀ c)) ⊢ Wp c (body (F := F)) fun _ => iprop(Φ₁ m c ∗ OW c 0) := by
  refine BIBase.Entails.trans (Q := iprop(∃ K, Start m K c)) ?_ ?_
  · unfold Φ₀
    iintro ⟨⟨HX, HR⟩, HO⟩
    iapply (enter m c)
    isplitl [HX]; · iexact HX
    isplitl [HR] <;> iassumption
  · refine exists_elim fun K => (wp_body m K c).trans (wp_mono _ _ _ fun _ => ?_)
    exact leave m c

set_option maxRecDepth 4000 in
/-- The library's form of it. -/
theorem body_obligation (c : Dev nD) : BodyObligation (dats (F := F) m 0 c) (defs₀ (F := F)) 𝒱₀ () Set.univ := fun t => by
  rw [fin_N0 t]
  have e (A : Fin cfg0.W → sProp 𝕄) : bigSep Finset.univ A = iprop(emp) := by
    rw [show (Finset.univ : Finset (Fin cfg0.W)) = ∅ from rfl]; exact bigSep_empty
  rw [e, e]
  show iprop(Φ₀ m c ∗ (dats m 0 c).owesAt () t0_0.castSucc ∗ emp) ⊢ Wp c (body (F := F)) fun _ => iprop(Φ₁ m c ∗ (dats m 0 c).owesAt () t0_0.succ ∗ emp)
  refine BIBase.Entails.trans ?_ ((step m c).trans (wp_mono _ _ _ fun _ => ?_))
  · unfold Dat.owesAt Pipeline.owesWithin OW
    iintro ⟨HΦ, ⟨%W, -, HO⟩, -⟩
    isplitl [HΦ]; · iexact HΦ
    iexists W; iexact HO
  · unfold Dat.owesAt Pipeline.owesWithin OW
    iintro ⟨HΦ, %W, HO⟩
    isplitl [HΦ]; · iexact HΦ
    isplitl [HO]
    · iexists W
      isplitr; · ipureintro; exact fun _ _ => Or.inl trivial
      iexact HO
    iempintro

theorem waits (c : Dev nD) : (levAts L lv : sProp 𝕄) ⊢ Pipeline.cellsWaits cfgs (dats m) () 0 c :=
  Pipeline.cellsWaits_intro cfgs (dats m) () 0 c fun w s t => w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨Ha, Hlev, Hcr, -, HG⟩
  ihave Hc := (creds (F := F) c) $$ Hcr
  imodintro
  unfold X arrays
  isplitl
  · isplitl [Ha]; · iexact Ha
    isplitl [Hlev]; · iexact Hlev
    isplitl [Hc]; · iexact Hc
    iexact HG
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨HX, -, HR⟩
  isplitl [HX] <;> iassumption

/-- What a device's memory and counters hold at the end. -/
def Ends (c : Dev nD) (s : MemSt nD τ sig (Elt F)) : Prop :=
  (s.mem (xL c) = xF m c ∧ s.mem (dyL c) = dyF m c ∧ s.mem (outM.view.loc (c : Thread nD τ)) = outAll m c)
    ∧ ∀ sm : SemLoc sig, sm.isScoped .tc = false → s.sem ((c.tc : Thread nD τ), sm) = 0

/-- A buffer held whole is what the memory holds. -/
theorem whole_read {ℓ : Loc nD τ sig} (f : Buf (Elt F) ℓ) (s : Phys nD τ sig (Elt F)) :
    iprop((ℓ ↦{fullShare} f) ∗ SI s) ⊢ (⌜s.mem.mem ℓ = f⌝ : sProp 𝕄) :=
  sep_comm.trans <| (SI_pointsTo_agree (st := s) (ℓ := ℓ) (I := Finset.univ) (q := fullShare) (f := f)).trans
    (Laws.pure_mono fun h => funext fun i => h i (Finset.mem_univ i))

theorem ends_read (c : Dev nD) (s : Phys nD τ sig (Elt F)) :
    iprop(Y m c ∗ emp ∗ SI s) ⊢ |={Set.univ}=> iprop(⌜Ends m c s.mem⌝ ∗ SI s) := by
  unfold Y arrays
  iintro ⟨⟨⟨Hx, Hy, Ho⟩, Hu⟩, -, HSI⟩
  ihave %hx := (whole_read (ℓ := xL c) (xF m c) s) $$ [Hx HSI]
  · isplitl [Hx] <;> iassumption
  ihave %hy := (whole_read (ℓ := dyL c) (dyF m c) s) $$ [Hy HSI]
  · isplitl [Hy] <;> iassumption
  ihave %ho := (whole_read (ℓ := outM.view.loc (c : Thread nD τ)) (outAll m c) s) $$ [Ho HSI]
  · isplitl [Ho] <;> iassumption
  imod (Pipeline.unscopedSems0_read (X := unscopedSems0 c) (c := c) fupd_intro s) $$ [Hu HSI] with ⟨%hs, HSI⟩
  · isplitl [Hu] <;> iassumption
  imodintro
  isplitr
  · ipureintro; exact ⟨⟨hx, hy, ho⟩, hs⟩
  iexact HSI

set_option maxRecDepth 8000 in
/-- At any float values, from any memory with zero counters: every weakly fair execution of the eight devices' kernels
    terminates, and at the end each device's result holds `outAll`, its two arguments what they held, and every
    semaphore counter is zero. -/
theorem run_main : θ_run defs (onTc (τ := τ) (main (F := F))) (s₀ m ρ)
    (fun r => (∀ c, r.2.mem (xL c) = xF m c ∧ r.2.mem (dyL c) = dyF m c ∧ r.2.mem (outM.view.loc (c : Thread nD τ)) = outAll m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m) (hne := block_pos0) (harr := arr_whole0) (hstage := stage_whole0)
    (hshare := fun _ w => w.elim0) (hdistinct := winFacts0.arr_inj)
    (O₀ := O₀) (howed₀ := fun _ => rfl) (howedN := fun _ => rfl) (L := L) (lv := lv) (hL := L_of_ne) (hwaits := waits m)
    (G := G m) (G' := G' m) (u₀ := u₀)
    (hu₀ := by
      iintro Hu
      ihave H := u₀_split $$ Hu
      icases H with ⟨HP, HX⟩
      imod (fund_cells m) $$ HX with HG
      imodintro
      isplitl [HP] <;> iassumption)
    (hglob := glob m) (hA := fun _ w => w.elim0) (hpf := fun _ k => k.elim0)
    (X := X m) (Y := Y m) (Z := fun _ => iprop(emp))
    (hX := start_intro m ρ) (hin := phi0_intro m) (hout := fun _ => .rfl)
    (QY := Ends m) (hY := ends_read m)
    (hQ := fun _ h hs => ⟨fun c => (h c).2.2.1, sem_eq_zero hs fun c => (h c).2.2.2⟩)

end Cert.DwProof

end
-- ==== Proof.Values.lean ====
/-
What a device's result holds at exact values: the sum over its own rows and over the rows of a device with the other place
along `y` of the products of two columns.
-/
module

public import proofs.«01_k».proof.Proof.Contents
public import Idealize.ShloMosaic.Lib.Pointwise
public import Idealize.ShloMosaic.PureOps.Ideal

@[expose] public section

noncomputable section

namespace Cert.DwProof

open Cert.KernelIdeal Cert.KernelIdeal.Gen

open Idealize.ShloMosaic
open Idealize.ShloMosaic.TcCoe

variable (m : (ℓ : Loc nD τ sig) → Buf (Elt Ideal) ℓ)

/-! ## The payloads at an index -/

theorem pay10_apply (w : S1x2048x256.Idx → EReal) (s : Fin 2048) (q : Fin 256) :
    (k0_pay10 (F := Ideal) w : S2048x256.Idx → EReal) (ix2 s q) = w (ix3 (0 : Fin 1) s q) := by
  pointwise [k0_pay10]

theorem pay7_apply (dy : S1x2048x256.Idx → EReal) (xa : S2048x1536.Idx → EReal) (q : Fin 1536) (f : Fin 256) :
    (k0_pay7 (F := Ideal) dy xa : S1536x256.Idx → EReal) (ix2 q f) = ∑ s : Fin 2048, xa (ix2 s q) * dy (ix3 (0 : Fin 1) s f) := by
  pointwise [k0_pay7]

theorem pay8_apply (r : S1536x256.Idx → EReal) (i : Fin 512) (f : Fin 256) :
    (k0_pay8 (F := Ideal) r : S1x512x256.Idx → EReal) (ix3 (0 : Fin 1) i f) = r (ix2 (⟨i.val, by omega⟩ : Fin 1536) f) := by
  pointwise [k0_pay8]

theorem pay9_apply (r : S1536x256.Idx → EReal) (i : Fin 1024) (f : Fin 256) :
    (k0_pay9 (F := Ideal) r : S1024x256.Idx → EReal) (ix2 i f) = r (ix2 (⟨512 + i.val, by omega⟩ : Fin 1536) f) := by
  pointwise [k0_pay9]

theorem pay5_apply (b : BitVec 1) (d : S1024x256.Idx → EReal) (p q : S1x512x256.Idx → EReal) (i : Fin 512) (f : Fin 256) :
    (k0_pay5 (F := Ideal) b d p q : S512x256.Idx → EReal) (ix2 i f) =
      d (ix2 (⟨i.val, by omega⟩ : Fin 1024) f) + (if b = 1#1 then p else q) (ix3 (0 : Fin 1) i f) := by
  pointwise [k0_pay5, k0_pay2, k0_pay3, k0_pay4]
  by_cases h : b = 1#1 <;> simp [Scalar.select, h]

theorem pay6_apply (b : BitVec 1) (d : S1024x256.Idx → EReal) (p q : S1x512x256.Idx → EReal) (i : Fin 512) (f : Fin 256) :
    (k0_pay17 (F := Ideal) (k0_pay6 b d p q) : S512x256.Idx → EReal) (ix2 i f) =
      d (ix2 (⟨512 + i.val, by omega⟩ : Fin 1024) f) + (if b = 1#1 then q else p) (ix3 (0 : Fin 1) i f) := by
  pointwise [k0_pay6, k0_pay17, k0_pay2, k0_pay3, k0_pay4]
  by_cases h : b = 1#1 <;> simp [Scalar.select, h]

/-! ## The product of two columns -/

/-- The product of column `k` of device `c`'s rows of `x` with column `f` of its rows of `dy`. -/
def part (c : Dev nD) (k : Fin 2048) (f : Fin 8192) : EReal :=
  ∑ s : Fin 2048, (xF m c (ix2 s k) : EReal) * (dyF m c (ix2 s f) : EReal)

/-- An entry of a block of the product, by the columns its place stands for. -/
theorem res_apply (c : Dev nD) (t : ℕ) (q : Fin 1536) (e : Fin 256) (k : Fin 2048) (f : Fin 8192)
    (hk : xCol c (q.val / 256) + q.val % 256 = k.val) (hf : 256 * t + e.val = f.val) :
    (res m c t : S1536x256.Idx → EReal) (ix2 q e) = part m c k f := by
  refine (pay7_apply _ _ q e).trans (Finset.sum_congr rfl fun s _ => ?_)
  have hx : (xaAll m c (ix2 s q) : EReal) = xF m c (ix2 s k) := by
    refine (pay10_apply (lift1 (xcols m c (q.val / 256))) s ⟨q.val % 256, Nat.mod_lt _ (by decide)⟩).trans ?_
    refine congrArg (fun i => (xF m c (ix2 s i) : EReal)) (Fin.ext ?_)
    show (xCol c (q.val / 256) + q.val % 256) % 2048 = k.val
    rw [hk]
    exact Nat.mod_eq_of_lt k.isLt
  have hy : (lift1 (dycols m c t) (ix3 (0 : Fin 1) s e) : EReal) = dyF m c (ix2 s f) := by
    refine congrArg (fun i => (dyF m c (ix2 s i) : EReal)) (Fin.ext ?_)
    show (256 * t + e.val) % 8192 = f.val
    rw [hf]
    exact Nat.mod_eq_of_lt f.isLt
  rw [hx, hy]

/-- The rows that stay are the device's own row block of the result; -/
theorem dBlk_apply (c : Dev nD) (t : ℕ) (i : Fin 1024) (e : Fin 256) (k : Fin 2048) (f : Fin 8192)
    (hk : 1024 * (c.val / 2 % 2) + i.val = k.val) (hf : 256 * t + e.val = f.val) :
    (dBlk m c t : S1024x256.Idx → EReal) (ix2 i e) = part m c k f := by
  refine (pay9_apply _ i e).trans (res_apply m c t _ e k f ?_ hf)
  have := i.isLt
  show xCol c ((512 + i.val) / 256) + (512 + i.val) % 256 = k.val
  unfold xCol
  rw [if_neg (by omega)]
  omega

/-- the rows sent are a half, the one with the device's number along `z`, of the row block of its neighbour along `y`. -/
theorem eBlk_apply (c : Dev nD) (t : ℕ) (i : Fin 512) (e : Fin 256) (k : Fin 2048) (f : Fin 8192)
    (hk : 512 * (c.val % 2) + 1024 - 1024 * (c.val / 2 % 2) + i.val = k.val) (hf : 256 * t + e.val = f.val) :
    (eBlk m c t : S1x512x256.Idx → EReal) (ix3 (0 : Fin 1) i e) = part m c k f := by
  refine (pay8_apply _ i e).trans (res_apply m c t _ e k f ?_ hf)
  have := i.isLt
  show xCol c (i.val / 256) + i.val % 256 = k.val
  unfold xCol
  rw [if_pos (by omega)]
  omega

/-! ## A device's result -/

theorem v137_eq (c : Dev nD) : v137 c = if c.val % 2 = 0 then 1#1 else 0#1 := by revert c; decide
theorem yn_y (c : Dev nD) : (yn c).val / 2 % 2 = 1 - c.val / 2 % 2 := by revert c; decide
theorem yn_z (c : Dev nD) : (yn c).val % 2 = c.val % 2 := by revert c; decide
theorem ynzn_y (c : Dev nD) : (yn (zn c)).val / 2 % 2 = 1 - c.val / 2 % 2 := by revert c; decide
theorem ynzn_z (c : Dev nD) : (yn (zn c)).val % 2 = 1 - c.val % 2 := by revert c; decide

/-- An entry of a device's result is the sum of the product of two columns over its own rows and over the rows of one
    device with the other place along `y`. -/
theorem outAll_apply (c : Dev nD) (r : Fin 1024) (f : Fin 8192) (k : Fin 2048) (hk : 1024 * (c.val / 2 % 2) + r.val = k.val) :
    ∃ d : Dev nD, d.val / 2 % 2 = 1 - c.val / 2 % 2 ∧
      (outAll m c : S1024x8192.Idx → EReal) (ix2 r f) = part m c k f + part m d k f := by
  have hr := r.isLt
  have hf : 256 * (f.val / 256) + f.val % 256 = f.val := Nat.div_add_mod _ _
  have hy := yn_y c
  have hz := yn_z c
  have hy' := ynzn_y c
  have hz' := ynzn_z c
  let e : Fin 256 := ⟨f.val % 256, Nat.mod_lt _ (by decide)⟩
  by_cases h : r.val < 512
  · have ho : (outAll m c : S1024x8192.Idx → EReal) (ix2 r f) =
        tileT c (dBlk m c (f.val / 256)) (eBlk m (yn c) (f.val / 256)) (eBlk m (yn (zn c)) (f.val / 256)) (ix2 (⟨r.val, h⟩ : Fin 512) e) :=
      dif_pos h
    have hp := ho.trans (pay5_apply _ _ _ _ _ _)
    rw [dBlk_apply m c _ _ e k f hk hf, v137_eq] at hp
    by_cases hz0 : c.val % 2 = 0
    · refine ⟨yn c, hy, hp.trans ?_⟩
      rw [if_pos hz0, if_pos rfl, eBlk_apply m (yn c) _ _ e k f (by show _ + r.val = _; omega) hf]
    · refine ⟨yn (zn c), hy', hp.trans ?_⟩
      rw [if_neg hz0, if_neg (by decide), eBlk_apply m (yn (zn c)) _ _ e k f (by show _ + r.val = _; omega) hf]
  · have ho : (outAll m c : S1024x8192.Idx → EReal) (ix2 r f) =
        tileB c (dBlk m c (f.val / 256)) (eBlk m (yn c) (f.val / 256)) (eBlk m (yn (zn c)) (f.val / 256))
          (ix2 (⟨r.val - 512, by omega⟩ : Fin 512) e) :=
      dif_neg h
    have hp := ho.trans (pay6_apply _ _ _ _ _ _)
    rw [dBlk_apply m c _ _ e k f (by show _ + (512 + (r.val - 512)) = _; omega) hf, v137_eq] at hp
    by_cases hz0 : c.val % 2 = 0
    · refine ⟨yn (zn c), hy', hp.trans ?_⟩
      rw [if_pos hz0, if_pos rfl, eBlk_apply m (yn (zn c)) _ _ e k f (by show _ + (r.val - 512) = _; omega) hf]
    · refine ⟨yn c, hy, hp.trans ?_⟩
      rw [if_neg hz0, if_neg (by decide), eBlk_apply m (yn c) _ _ e k f (by show _ + (r.val - 512) = _; omega) hf]

end Cert.DwProof

end
-- ==== Proof.Equal.lean ====
/-
The result of every device at exact values is its block of the reference's result.
-/
module

public import proofs.«01_k».proof.Proof.Values
public import proofs.«01_k».proof.Proof.Gen.ReferenceIdeal
public import Idealize.ShloMosaic.Lib.Layout

@[expose] public section

set_option backward.proofsInPublic true

noncomputable section

namespace Cert.DwProof

open Cert.KernelIdeal
open Cert.ReferenceIdeal (S4096x2048 S4096x8192 S2048x4096)

open Idealize.ShloMosaic
open Idealize.ShloMosaic.TcCoe

/-- The reference's result, of its two arguments. -/
def refOut (X : S4096x2048.Idx → Elt Ideal .f32) (Y : S4096x8192.Idx → Elt Ideal .f32) : S2048x8192.Idx → Elt Ideal .bf16 :=
  truncf (F := Ideal) .bf16 (Host.dotGeneral (F := Ideal) (φ₁ := .f32) (φ₂ := .f32) Cert.ReferenceIdeal.dot_S2048x4096_S4096x8192_S2048x8192_1_0_0_1_n_n none
    (transpose S2048x4096 [1, 0] X Cert.ReferenceIdeal.Gen.transposes_S4096x2048_S2048x4096_1_0) Y) Cert.ReferenceIdeal.Gen.bitsLt_bf16_f32

/-- An entry of it is the product of two whole columns, -/
theorem refOut_apply (X : S4096x2048.Idx → EReal) (Y : S4096x8192.Idx → EReal) (k : Fin 2048) (f : Fin 8192) :
    (refOut X Y : S2048x8192.Idx → EReal) (ix2 k f) = ∑ s : Fin 4096, X (ix2 s k) * Y (ix2 s f) := by
  pointwise [refOut]

/-- hence the sum of the products over the first and over the last 2048 rows. -/
theorem refOut_split (X : S4096x2048.Idx → EReal) (Y : S4096x8192.Idx → EReal) (k : Fin 2048) (f : Fin 8192) :
    (refOut X Y : S2048x8192.Idx → EReal) (ix2 k f) =
      (∑ s : Fin 2048, X (ix2 (⟨s.val, by omega⟩ : Fin 4096) k) * Y (ix2 (⟨s.val, by omega⟩ : Fin 4096) f)) +
        ∑ s : Fin 2048, X (ix2 (⟨2048 + s.val, by omega⟩ : Fin 4096) k) * Y (ix2 (⟨2048 + s.val, by omega⟩ : Fin 4096) f) :=
  (refOut_apply X Y k f).trans (Fin.sum_univ_add (fun s : Fin (2048 + 2048) => X (ix2 s k) * Y (ix2 s f)))

variable (m : (ℓ : Loc nD τ sig) → Buf (Elt Ideal) ℓ)

/-- Where an entry of a device's block of rows lies in the whole array. -/
theorem block_apply {R C : ℕ} (c : Dev nD) (X : (⟨2, ![2 * R, C]⟩ : Shape).Idx → EReal)
    (h : Layout.TilesN ⟨2, ![R, C]⟩ ⟨2, ![2 * R, C]⟩ (fun b => Layout.cutSize [2, 2, 2] ((![[1], []] : Fin 2 → List ℕ) b))) (i : Fin R) (j : Fin C) (p : Fin (2 * R))
    (hp : p.val = c.val / 2 % 2 * R + i.val) :
    Layout.blockN ⟨2, ![R, C]⟩ ⟨2, ![2 * R, C]⟩ (Layout.meshBlock [2, 2, 2] ![[1], []] c) X h (ix2 i j) = X (ix2 p j) := by
  rw [Layout.blockN_apply]
  have e : Layout.meshLin [2, 2, 2] c.val [1] = c.val / 2 % 2 := by clear hp; revert c; decide
  refine congrArg X (funext fun a => ?_)
  match a with
  | ⟨0, _⟩ => exact Fin.ext (show Layout.meshLin [2, 2, 2] c.val [1] * R + i.val = p.val by rw [e, hp])
  | ⟨1, _⟩ => exact Fin.ext (show 0 * C + j.val = j.val by omega)

section
variable (X : S4096x2048.Idx → Elt Ideal .f32) (Y : S4096x8192.Idx → Elt Ideal .f32)
variable (hX : ∀ c : Dev nD, xF m c = Layout.blockN ⟨2, ![2048, 2048]⟩ ⟨2, ![4096, 2048]⟩ (Layout.meshBlock [2, 2, 2] ![[1], []] c) X)
variable (hY : ∀ c : Dev nD, dyF m c = Layout.blockN ⟨2, ![2048, 8192]⟩ ⟨2, ![4096, 8192]⟩ (Layout.meshBlock [2, 2, 2] ![[1], []] c) Y)
include hX hY

/-- A device's product of two columns, in the whole arrays' entries. -/
theorem part_eq (c : Dev nD) (k : Fin 2048) (f : Fin 8192) :
    part m c k f = ∑ s : Fin 2048, (X (ix2 (⟨c.val / 2 % 2 * 2048 + s.val, by omega⟩ : Fin 4096) k) : EReal) *
      (Y (ix2 (⟨c.val / 2 % 2 * 2048 + s.val, by omega⟩ : Fin 4096) f) : EReal) := by
  refine Finset.sum_congr rfl fun s _ => ?_
  rw [hX, hY]
  exact congrArg₂ (fun a b : EReal => a * b) (block_apply (R := 2048) c X _ s k _ rfl) (block_apply (R := 2048) c Y _ s f _ rfl)

/-- Two devices with different places along `y` hold all rows between them. -/
theorem part_add (c d : Dev nD) (hd : d.val / 2 % 2 = 1 - c.val / 2 % 2) (k : Fin 2048) (f : Fin 8192) :
    part m c k f + part m d k f = (refOut X Y : S2048x8192.Idx → EReal) (ix2 k f) := by
  rw [refOut_split, part_eq m X Y hX hY c, part_eq m X Y hX hY d]
  by_cases h : c.val / 2 % 2 = 0
  · have h' : d.val / 2 % 2 = 1 := by omega
    simp only [h, h', Nat.zero_mul, Nat.zero_add, Nat.one_mul]
  · have h0 : c.val / 2 % 2 = 1 := by omega
    have h' : d.val / 2 % 2 = 0 := by omega
    simp only [h0, h', Nat.zero_mul, Nat.zero_add, Nat.one_mul]
    exact add_comm _ _

/-- Every device's result is its block of the reference's. -/
theorem out_eq (c : Dev nD) :
    outAll m c = Layout.blockN ⟨2, ![1024, 8192]⟩ ⟨2, ![2048, 8192]⟩ (Layout.meshBlock [2, 2, 2] ![[1], []] c) (refOut X Y) := by
  funext j
  obtain ⟨r, f, rfl⟩ : ∃ (r : Fin 1024) (f : Fin 8192), j = ix2 r f := ⟨j 0, j 1, funext fun a => by match a with | ⟨0, _⟩ => rfl | ⟨1, _⟩ => rfl⟩
  have hr := r.isLt
  obtain ⟨d, hd, h⟩ := outAll_apply m c r f ⟨1024 * (c.val / 2 % 2) + r.val, by omega⟩ rfl
  refine h.trans ((part_add m X Y hX hY c d hd _ f).trans (block_apply (R := 1024) c (refOut X Y) _ r f _ ?_).symm)
  show 1024 * (c.val / 2 % 2) + r.val = c.val / 2 % 2 * 1024 + r.val
  omega

end

end Cert.DwProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equal
public import Idealize.ShloMosaic.Lib.Quiescent

@[expose] public section

noncomputable section

namespace Cert.Proof

open Idealize.ShloMosaic Idealize.ShloMosaic.TcCoe Idealize.SL Idealize.SL.Sem

/-- The idealized kernel runs, leaves its arguments unchanged and every counter at zero; -/
theorem frame_ideal : Cert.quiescent_KernelIdeal := fun m ρ _ =>
  (θ_run Cert.KernelIdeal.defs _ _).mono (fun _ h => ⟨fun c => ⟨(h.1 c).1, (h.1 c).2.1⟩, h.2⟩) (Cert.DwProof.run_main (F := Ideal) m ρ)

/-- so does the kernel, -/
theorem frame_kernel : Cert.quiescent_Kernel := fun m ρ _ =>
  (θ_run Cert.KernelIdeal.defs _ _).mono (fun _ h => ⟨fun c => ⟨(h.1 c).1, (h.1 c).2.1⟩, h.2⟩) (Cert.DwProof.run_main (F := Bits) m ρ)

/-- and the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization changed no operation. -/
theorem preserves : Cert.preserves_Kernel_KernelIdeal := trivial

/-- Every device's result is its block of the reference's. -/
theorem algebraic : Cert.algebraic_KernelIdeal_ReferenceIdeal := fun m ρ m' ρ' _ hin =>
  ⟨Cert.DwProof.refOut (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono (fun _ h c =>
        ⟨(h.1 c).2.2.trans (Cert.DwProof.out_eq m _ _ (fun d => (hin d).1) (fun d => (hin d).2) c), (h.1 c).1, (h.1 c).2.1⟩)
      (Cert.DwProof.run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
